-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 2]⟩ ⟨2, ![8192, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![8192, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S_ : Shape := ⟨0, ![]⟩

class Facts : Prop where
  bcast_S_S256x2 : S_.BroadcastsInDim S256x2 (![] : Fin 0 → Fin S256x2.rank)
  reducesTo_S256x2_S_d0_1 : S256x2.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S256x128 .f32) (main_arg1 : FVec F S128x64 .f32) (main_arg2 : IVec S256x2 32) (main_arg3 : FVec F S2x128x256 .f32) : IVec S_ 1 :=
  let main_c : IVec S_ 32 := constantI S_ 32 0#32
  let main_v0 : IVec S256x2 32 := broadcastInDim S256x2 ![] bcast_S_S256x2 main_c
  let main_v1 : IVec S256x2 1 := cmpi .sge main_arg2 main_v0
  let main_c_0 : IVec S_ 32 := constantI S_ 32 64#32
  let main_v2 : IVec S256x2 32 := broadcastInDim S256x2 ![] bcast_S_S256x2 main_c_0
  let main_v3 : IVec S256x2 1 := cmpi .slt main_arg2 main_v2
  let main_v4 : IVec S256x2 1 := andi main_v1 main_v3
  let main_c_1 : IVec S_ 1 := constantI S_ 1 1#1
  let main_v5 : IVec S_ 1 := (fun x v => Host.reduce IntOp.andi x v reducesTo_S256x2_S_d0_1 h_S_) main_v4 main_c_1
  let main_v6 : FVec F S256x128 .f32 := Host.absf main_arg0
  let main_cst : FVec F S_ .f32 := constant S_ .f32 0x7F800000#32
  let main_v7 : FVec F S256x128 .f32 := broadcastInDim S256x128 ![] bcast_S_S256x128 main_cst
  let main_v8 : IVec S256x128 1 := cmpf .olt main_v6 main_v7
  let main_c_2 : IVec S_ 1 := constantI S_ 1 1#1
  let main_v9 : IVec S_ 1 := (fun x v => Host.reduce IntOp.andi x v reducesTo_S256x128_S_d0_1 h_S_) main_v8 main_c_2
  let main_v10 : IVec S_ 1 := andi main_v5 main_v9
  let main_v11 : FVec F S128x64 .f32 := Host.absf main_arg1
  let main_cst_3 : FVec F S_ .f32 := constant S_ .f32 0x7F800000#32
  let main_v12 : FVec F S128x64 .f32 := broadcastInDim S128x64 ![] bcast_S_S128x64 main_cst_3
  let main_v13 : IVec S128x64 1 := cmpf .olt main_v11 main_v12
  let main_c_4 : IVec S_ 1 := constantI S_ 1 1#1
  let main_v14 : IVec S_ 1 := (fun x v => Host.reduce IntOp.andi x v reducesTo_S128x64_S_d0_1 h_S_) main_v13 main_c_4
  let main_v15 : IVec S_ 1 := andi main_v10 main_v14
  main_v15
-- ==== Pre_routed_ReferenceIdeal.lean ====
abbrev S8192x128 : Shape := ⟨2, ![8192, 128]⟩
abbrev S128x64 : Shape := ⟨2, ![128, 64]⟩
abbrev S8192x2 : Shape := ⟨2, ![8192, 2]⟩
abbrev S64x128x256 : Shape := ⟨3, ![64, 128, 256]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S8192x128 .f32) (main_arg1 : FVec F S128x64 .f32) (main_arg2 : IVec S8192x2 32) (main_arg3 : FVec F S64x128x256 .f32) : IVec S_ 1 :=
  let main_c : IVec S_ 32 := constantI S_ 32 0#32
  let main_v0 : IVec S8192x2 32 := broadcastInDim S8192x2 ![] bcast_S_S8192x2 main_c
  let main_v1 : IVec S8192x2 1 := cmpi .sge main_arg2 main_v0
  let main_c_0 : IVec S_ 32 := constantI S_ 32 64#32
  let main_v2 : IVec S8192x2 32 := broadcastInDim S8192x2 ![] bcast_S_S8192x2 main_c_0
  let main_v3 : IVec S8192x2 1 := cmpi .slt main_arg2 main_v2
  let main_v4 : IVec S8192x2 1 := andi main_v1 main_v3
  let main_c_1 : IVec S_ 1 := constantI S_ 1 1#1
  let main_v5 : IVec S_ 1 := (fun x v => Host.reduce IntOp.andi x v reducesTo_S8192x2_S_d0_1 h_S_) main_v4 main_c_1
  let main_v6 : FVec F S8192x128 .f32 := Host.absf main_arg0
  let main_cst : FVec F S_ .f32 := constant S_ .f32 0x7F800000#32
  let main_v7 : FVec F S8192x128 .f32 := broadcastInDim S8192x128 ![] bcast_S_S8192x128 main_cst
  let main_v8 : IVec S8192x128 1 := cmpf .olt main_v6 main_v7
  let main_c_2 : IVec S_ 1 := constantI S_ 1 1#1
  let main_v9 : IVec S_ 1 := (fun x v => Host.reduce IntOp.andi x v reducesTo_S8192x128_S_d0_1 h_S_) main_v8 main_c_2
  let main_v10 : IVec S_ 1 := andi main_v5 main_v9
  let main_v11 : FVec F S128x64 .f32 := Host.absf main_arg1
  let main_cst_3 : FVec F S_ .f32 := constant S_ .f32 0x7F800000#32
  let main_v12 : FVec F S128x64 .f32 := broadcastInDim S128x64 ![] bcast_S_S128x64 main_cst_3
  let main_v13 : IVec S128x64 1 := cmpf .olt main_v11 main_v12
  let main_c_4 : IVec S_ 1 := constantI S_ 1 1#1
  let main_v14 : IVec S_ 1 := (fun x v => Host.reduce IntOp.andi x v reducesTo_S128x64_S_d0_1 h_S_) main_v13 main_c_4
  let main_v15 : IVec S_ 1 := andi main_v10 main_v14
  main_v15
-- ==== Kernel.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S256x256 : Shape := ⟨2, ![256, 256]⟩
abbrev S16x2x128x256 : Shape := ⟨4, ![16, 2, 128, 256]⟩
abbrev S15x2x128x256 : Shape := ⟨4, ![15, 2, 128, 256]⟩
abbrev S16 : Shape := ⟨1, ![16]⟩
abbrev S15 : Shape := ⟨1, ![15]⟩
abbrev S1x32 : Shape := ⟨2, ![1, 32]⟩
abbrev S1x1x32 : Shape := ⟨3, ![1, 1, 32]⟩
abbrev S1 : Shape := ⟨1, ![1]⟩
abbrev S1x1x1 : Shape := ⟨3, ![1, 1, 1]⟩
abbrev S_ : Shape := ⟨0, ![]⟩
abbrev S1x2x128x256 : Shape := ⟨4, ![1, 2, 128, 256]⟩
abbrev S256x64 : Shape := ⟨2, ![256, 64]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x2, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S128x64, .f32⟩
  | .local _ .vmem, ⟨2, _⟩ => ⟨S256x2, .i32⟩
  | .local _ .vmem, ⟨3, _⟩ => ⟨S2x128x256, .f32⟩
  | .local _ .vmem, ⟨4, _⟩ => ⟨S256x256, .f32⟩
  | .local _ .vmem, ⟨5, _⟩ => ⟨S2x128x256, .bf16⟩
  | .local _ .vmem, ⟨6, _⟩ => ⟨S16x2x128x256, .bf16⟩
  | .local _ .vmem, ⟨7, _⟩ => ⟨S15x2x128x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (v281 : BitVec 32) : Nat :=
  let c0_i32_111 : BitVec 32 := 0#32
  let c1_i32_110 : BitVec 32 := 1#32
  let v293 : BitVec 32 := Scalar.muli v281 c1_i32_110
  let v294 : BitVec 32 := Scalar.addi c0_i32_111 v293
  v294.toNat

def k0_chk1 (v281 : BitVec 32) : Prop :=
  ((k0_dev1 v281) < nD)
theorem k0_dev1_lt : ∀ (v281 : BitVec 32) (k0_hw1 : k0_chk1 v281), (k0_dev1 v281) < nD := fun v281 k0_hw1 => k0_hw1

def k0_dev2 (v292 : BitVec 32) : Nat :=
  let c0_i32_114 : BitVec 32 := 0#32
  let c1_i32_113 : BitVec 32 := 1#32
  let v295 : BitVec 32 := Scalar.muli v292 c1_i32_113
  let v296 : BitVec 32 := Scalar.addi c0_i32_114 v295
  v296.toNat

def k0_chk2 (v292 : BitVec 32) : Prop :=
  ((k0_dev2 v292) < nD)
theorem k0_dev2_lt : ∀ (v292 : BitVec 32) (k0_hw2 : k0_chk2 v292), (k0_dev2 v292) < nD := fun v292 k0_hw2 => k0_hw2

def k0_dev3 (v307 : BitVec 32) : Nat :=
  let c0_i32_126 : BitVec 32 := 0#32
  let c1_i32_125 : BitVec 32 := 1#32
  let v319 : BitVec 32 := Scalar.muli v307 c1_i32_125
  let v320 : BitVec 32 := Scalar.addi c0_i32_126 v319
  v320.toNat

def k0_chk3 (v307 : BitVec 32) : Prop :=
  ((k0_dev3 v307) < nD)
theorem k0_dev3_lt : ∀ (v307 : BitVec 32) (k0_hw3 : k0_chk3 v307), (k0_dev3 v307) < nD := fun v307 k0_hw3 => k0_hw3

def k0_dev4 (v318 : BitVec 32) : Nat :=
  let c0_i32_129 : BitVec 32 := 0#32
  let c1_i32_128 : BitVec 32 := 1#32
  let v321 : BitVec 32 := Scalar.muli v318 c1_i32_128
  let v322 : BitVec 32 := Scalar.addi c0_i32_129 v321
  v322.toNat

def k0_chk4 (v318 : BitVec 32) : Prop :=
  ((k0_dev4 v318) < nD)
theorem k0_dev4_lt : ∀ (v318 : BitVec 32) (k0_hw4 : k0_chk4 v318), (k0_dev4 v318) < nD := fun v318 k0_hw4 => k0_hw4

def k0_dev5 (v339 : BitVec 32) : Nat :=
  let c0_i32_145 : BitVec 32 := 0#32
  let c1_i32_144 : BitVec 32 := 1#32
  let v340 : BitVec 32 := Scalar.muli v339 c1_i32_144
  let v341 : BitVec 32 := Scalar.addi c0_i32_145 v340
  v341.toNat

def k0_chk5 (v339 : BitVec 32) : Prop :=
  ((k0_dev5 v339) < nD)
theorem k0_dev5_lt : ∀ (v339 : BitVec 32) (k0_hw5 : k0_chk5 v339), (k0_dev5 v339) < nD := fun v339 k0_hw5 => k0_hw5

def k0_dev6 (v358 : BitVec 32) : Nat :=
  let c0_i32_158 : BitVec 32 := 0#32
  let c1_i32_157 : BitVec 32 := 1#32
  let v359 : BitVec 32 := Scalar.muli v358 c1_i32_157
  let v360 : BitVec 32 := Scalar.addi c0_i32_158 v359
  v360.toNat

def k0_chk6 (v358 : BitVec 32) : Prop :=
  ((k0_dev6 v358) < nD)
theorem k0_dev6_lt : ∀ (v358 : BitVec 32) (k0_hw6 : k0_chk6 v358), (k0_dev6 v358) < nD := fun v358 k0_hw6 => k0_hw6

def k0_dev7 (v377 : BitVec 32) : Nat :=
  let c0_i32_171 : BitVec 32 := 0#32
  let c1_i32_170 : BitVec 32 := 1#32
  let v378 : BitVec 32 := Scalar.muli v377 c1_i32_170
  let v379 : BitVec 32 := Scalar.addi c0_i32_171 v378
  v379.toNat

def k0_chk7 (v377 : BitVec 32) : Prop :=
  ((k0_dev7 v377) < nD)
theorem k0_dev7_lt : ∀ (v377 : BitVec 32) (k0_hw7 : k0_chk7 v377), (k0_dev7 v377) < nD := fun v377 k0_hw7 => k0_hw7

def k0_dev8 (v396 : BitVec 32) : Nat :=
  let c0_i32_184 : BitVec 32 := 0#32
  let c1_i32_183 : BitVec 32 := 1#32
  let v397 : BitVec 32 := Scalar.muli v396 c1_i32_183
  let v398 : BitVec 32 := Scalar.addi c0_i32_184 v397
  v398.toNat

def k0_chk8 (v396 : BitVec 32) : Prop :=
  ((k0_dev8 v396) < nD)
theorem k0_dev8_lt : ∀ (v396 : BitVec 32) (k0_hw8 : k0_chk8 v396), (k0_dev8 v396) < nD := fun v396 k0_hw8 => k0_hw8

def k0_dev9 (v493 : BitVec 32) : Nat :=
  let c0_i32_232 : BitVec 32 := 0#32
  let c1_i32_231 : BitVec 32 := 1#32
  let v494 : BitVec 32 := Scalar.muli v493 c1_i32_231
  let v495 : BitVec 32 := Scalar.addi c0_i32_232 v494
  v495.toNat

def k0_chk9 (v493 : BitVec 32) : Prop :=
  ((k0_dev9 v493) < nD)
theorem k0_dev9_lt : ∀ (v493 : BitVec 32) (k0_hw9 : k0_chk9 v493), (k0_dev9 v493) < nD := fun v493 k0_hw9 => k0_hw9

def k0_dev10 (v522 : BitVec 32) : Nat :=
  let c0_i32_261 : BitVec 32 := 0#32
  let c1_i32_260 : BitVec 32 := 1#32
  let v523 : BitVec 32 := Scalar.muli v522 c1_i32_260
  let v524 : BitVec 32 := Scalar.addi c0_i32_261 v523
  v524.toNat

def k0_chk10 (v522 : BitVec 32) : Prop :=
  ((k0_dev10 v522) < nD)
theorem k0_dev10_lt : ∀ (v522 : BitVec 32) (k0_hw10 : k0_chk10 v522), (k0_dev10 v522) < nD := fun v522 k0_hw10 => k0_hw10

def k0_dev11 (v650 : BitVec 32) : Nat :=
  let c0_i32_321 : BitVec 32 := 0#32
  let c1_i32_320 : BitVec 32 := 1#32
  let v651 : BitVec 32 := Scalar.muli v650 c1_i32_320
  let v652 : BitVec 32 := Scalar.addi c0_i32_321 v651
  v652.toNat

def k0_chk11 (v650 : BitVec 32) : Prop :=
  ((k0_dev11 v650) < nD)
theorem k0_dev11_lt : ∀ (v650 : BitVec 32) (k0_hw11 : k0_chk11 v650), (k0_dev11 v650) < nD := fun v650 k0_hw11 => k0_hw11

def k0_dev12 (v679 : BitVec 32) : Nat :=
  let c0_i32_350 : BitVec 32 := 0#32
  let c1_i32_349 : BitVec 32 := 1#32
  let v680 : BitVec 32 := Scalar.muli v679 c1_i32_349
  let v681 : BitVec 32 := Scalar.addi c0_i32_350 v680
  v681.toNat

def k0_chk12 (v679 : BitVec 32) : Prop :=
  ((k0_dev12 v679) < nD)
theorem k0_dev12_lt : ∀ (v679 : BitVec 32) (k0_hw12 : k0_chk12 v679), (k0_dev12 v679) < nD := fun v679 k0_hw12 => k0_hw12

def k0_dev13 (v807 : BitVec 32) : Nat :=
  let c0_i32_410 : BitVec 32 := 0#32
  let c1_i32_409 : BitVec 32 := 1#32
  let v808 : BitVec 32 := Scalar.muli v807 c1_i32_409
  let v809 : BitVec 32 := Scalar.addi c0_i32_410 v808
  v809.toNat

def k0_chk13 (v807 : BitVec 32) : Prop :=
  ((k0_dev13 v807) < nD)
theorem k0_dev13_lt : ∀ (v807 : BitVec 32) (k0_hw13 : k0_chk13 v807), (k0_dev13 v807) < nD := fun v807 k0_hw13 => k0_hw13

def k0_dev14 (v836 : BitVec 32) : Nat :=
  let c0_i32_439 : BitVec 32 := 0#32
  let c1_i32_438 : BitVec 32 := 1#32
  let v837 : BitVec 32 := Scalar.muli v836 c1_i32_438
  let v838 : BitVec 32 := Scalar.addi c0_i32_439 v837
  v838.toNat

def k0_chk14 (v836 : BitVec 32) : Prop :=
  ((k0_dev14 v836) < nD)
theorem k0_dev14_lt : ∀ (v836 : BitVec 32) (k0_hw14 : k0_chk14 v836), (k0_dev14 v836) < nD := fun v836 k0_hw14 => k0_hw14

def k0_dev15 (v964 : BitVec 32) : Nat :=
  let c0_i32_498 : BitVec 32 := 0#32
  let c1_i32_497 : BitVec 32 := 1#32
  let v965 : BitVec 32 := Scalar.muli v964 c1_i32_497
  let v966 : BitVec 32 := Scalar.addi c0_i32_498 v965
  v966.toNat

def k0_chk15 (v964 : BitVec 32) : Prop :=
  ((k0_dev15 v964) < nD)
theorem k0_dev15_lt : ∀ (v964 : BitVec 32) (k0_hw15 : k0_chk15 v964), (k0_dev15 v964) < nD := fun v964 k0_hw15 => k0_hw15

def k0_dev16 (v993 : BitVec 32) : Nat :=
  let c0_i32_527 : BitVec 32 := 0#32
  let c1_i32_526 : BitVec 32 := 1#32
  let v994 : BitVec 32 := Scalar.muli v993 c1_i32_526
  let v995 : BitVec 32 := Scalar.addi c0_i32_527 v994
  v995.toNat

def k0_chk16 (v993 : BitVec 32) : Prop :=
  ((k0_dev16 v993) < nD)
theorem k0_dev16_lt : ∀ (v993 : BitVec 32) (k0_hw16 : k0_chk16 v993), (k0_dev16 v993) < nD := fun v993 k0_hw16 => k0_hw16

def k0_dev17 (v1121 : BitVec 32) : Nat :=
  let c0_i32_586 : BitVec 32 := 0#32
  let c1_i32_585 : BitVec 32 := 1#32
  let v1122 : BitVec 32 := Scalar.muli v1121 c1_i32_585
  let v1123 : BitVec 32 := Scalar.addi c0_i32_586 v1122
  v1123.toNat

def k0_chk17 (v1121 : BitVec 32) : Prop :=
  ((k0_dev17 v1121) < nD)
theorem k0_dev17_lt : ∀ (v1121 : BitVec 32) (k0_hw17 : k0_chk17 v1121), (k0_dev17 v1121) < nD := fun v1121 k0_hw17 => k0_hw17

def k0_dev18 (v1150 : BitVec 32) : Nat :=
  let c0_i32_615 : BitVec 32 := 0#32
  let c1_i32_614 : BitVec 32 := 1#32
  let v1151 : BitVec 32 := Scalar.muli v1150 c1_i32_614
  let v1152 : BitVec 32 := Scalar.addi c0_i32_615 v1151
  v1152.toNat

def k0_chk18 (v1150 : BitVec 32) : Prop :=
  ((k0_dev18 v1150) < nD)
theorem k0_dev18_lt : ∀ (v1150 : BitVec 32) (k0_hw18 : k0_chk18 v1150), (k0_dev18 v1150) < nD := fun v1150 k0_hw18 => k0_hw18

def k0_dev19 (v1278 : BitVec 32) : Nat :=
  let c0_i32_674 : BitVec 32 := 0#32
  let c1_i32_673 : BitVec 32 := 1#32
  let v1279 : BitVec 32 := Scalar.muli v1278 c1_i32_673
  let v1280 : BitVec 32 := Scalar.addi c0_i32_674 v1279
  v1280.toNat

def k0_chk19 (v1278 : BitVec 32) : Prop :=
  ((k0_dev19 v1278) < nD)
theorem k0_dev19_lt : ∀ (v1278 : BitVec 32) (k0_hw19 : k0_chk19 v1278), (k0_dev19 v1278) < nD := fun v1278 k0_hw19 => k0_hw19

def k0_dev20 (v1307 : BitVec 32) : Nat :=
  let c0_i32_703 : BitVec 32 := 0#32
  let c1_i32_702 : BitVec 32 := 1#32
  let v1308 : BitVec 32 := Scalar.muli v1307 c1_i32_702
  let v1309 : BitVec 32 := Scalar.addi c0_i32_703 v1308
  v1309.toNat

def k0_chk20 (v1307 : BitVec 32) : Prop :=
  ((k0_dev20 v1307) < nD)
theorem k0_dev20_lt : ∀ (v1307 : BitVec 32) (k0_hw20 : k0_chk20 v1307), (k0_dev20 v1307) < nD := fun v1307 k0_hw20 => k0_hw20

def k0_dev21 (v1435 : BitVec 32) : Nat :=
  let c0_i32_762 : BitVec 32 := 0#32
  let c1_i32_761 : BitVec 32 := 1#32
  let v1436 : BitVec 32 := Scalar.muli v1435 c1_i32_761
  let v1437 : BitVec 32 := Scalar.addi c0_i32_762 v1436
  v1437.toNat

def k0_chk21 (v1435 : BitVec 32) : Prop :=
  ((k0_dev21 v1435) < nD)
theorem k0_dev21_lt : ∀ (v1435 : BitVec 32) (k0_hw21 : k0_chk21 v1435), (k0_dev21 v1435) < nD := fun v1435 k0_hw21 => k0_hw21

def k0_dev22 (v1464 : BitVec 32) : Nat :=
  let c0_i32_791 : BitVec 32 := 0#32
  let c1_i32_790 : BitVec 32 := 1#32
  let v1465 : BitVec 32 := Scalar.muli v1464 c1_i32_790
  let v1466 : BitVec 32 := Scalar.addi c0_i32_791 v1465
  v1466.toNat

def k0_chk22 (v1464 : BitVec 32) : Prop :=
  ((k0_dev22 v1464) < nD)
theorem k0_dev22_lt : ∀ (v1464 : BitVec 32) (k0_hw22 : k0_chk22 v1464), (k0_dev22 v1464) < nD := fun v1464 k0_hw22 => k0_hw22

def k0_dev23 (v1592 : BitVec 32) : Nat :=
  let c0_i32_850 : BitVec 32 := 0#32
  let c1_i32_849 : BitVec 32 := 1#32
  let v1593 : BitVec 32 := Scalar.muli v1592 c1_i32_849
  let v1594 : BitVec 32 := Scalar.addi c0_i32_850 v1593
  v1594.toNat

def k0_chk23 (v1592 : BitVec 32) : Prop :=
  ((k0_dev23 v1592) < nD)
theorem k0_dev23_lt : ∀ (v1592 : BitVec 32) (k0_hw23 : k0_chk23 v1592), (k0_dev23 v1592) < nD := fun v1592 k0_hw23 => k0_hw23

def k0_dev24 (v1621 : BitVec 32) : Nat :=
  let c0_i32_879 : BitVec 32 := 0#32
  let c1_i32_878 : BitVec 32 := 1#32
  let v1622 : BitVec 32 := Scalar.muli v1621 c1_i32_878
  let v1623 : BitVec 32 := Scalar.addi c0_i32_879 v1622
  v1623.toNat

def k0_chk24 (v1621 : BitVec 32) : Prop :=
  ((k0_dev24 v1621) < nD)
theorem k0_dev24_lt : ∀ (v1621 : BitVec 32) (k0_hw24 : k0_chk24 v1621), (k0_dev24 v1621) < nD := fun v1621 k0_hw24 => k0_hw24

def k0_dev25 (v1749 : BitVec 32) : Nat :=
  let c0_i32_938 : BitVec 32 := 0#32
  let c1_i32_937 : BitVec 32 := 1#32
  let v1750 : BitVec 32 := Scalar.muli v1749 c1_i32_937
  let v1751 : BitVec 32 := Scalar.addi c0_i32_938 v1750
  v1751.toNat

def k0_chk25 (v1749 : BitVec 32) : Prop :=
  ((k0_dev25 v1749) < nD)
theorem k0_dev25_lt : ∀ (v1749 : BitVec 32) (k0_hw25 : k0_chk25 v1749), (k0_dev25 v1749) < nD := fun v1749 k0_hw25 => k0_hw25

def k0_dev26 (v1778 : BitVec 32) : Nat :=
  let c0_i32_967 : BitVec 32 := 0#32
  let c1_i32_966 : BitVec 32 := 1#32
  let v1779 : BitVec 32 := Scalar.muli v1778 c1_i32_966
  let v1780 : BitVec 32 := Scalar.addi c0_i32_967 v1779
  v1780.toNat

def k0_chk26 (v1778 : BitVec 32) : Prop :=
  ((k0_dev26 v1778) < nD)
theorem k0_dev26_lt : ∀ (v1778 : BitVec 32) (k0_hw26 : k0_chk26 v1778), (k0_dev26 v1778) < nD := fun v1778 k0_hw26 => k0_hw26

def k0_dev27 (v1906 : BitVec 32) : Nat :=
  let c0_i32_1026 : BitVec 32 := 0#32
  let c1_i32_1025 : BitVec 32 := 1#32
  let v1907 : BitVec 32 := Scalar.muli v1906 c1_i32_1025
  let v1908 : BitVec 32 := Scalar.addi c0_i32_1026 v1907
  v1908.toNat

def k0_chk27 (v1906 : BitVec 32) : Prop :=
  ((k0_dev27 v1906) < nD)
theorem k0_dev27_lt : ∀ (v1906 : BitVec 32) (k0_hw27 : k0_chk27 v1906), (k0_dev27 v1906) < nD := fun v1906 k0_hw27 => k0_hw27

def k0_dev28 (v1935 : BitVec 32) : Nat :=
  let c0_i32_1055 : BitVec 32 := 0#32
  let c1_i32_1054 : BitVec 32 := 1#32
  let v1936 : BitVec 32 := Scalar.muli v1935 c1_i32_1054
  let v1937 : BitVec 32 := Scalar.addi c0_i32_1055 v1936
  v1937.toNat

def k0_chk28 (v1935 : BitVec 32) : Prop :=
  ((k0_dev28 v1935) < nD)
theorem k0_dev28_lt : ∀ (v1935 : BitVec 32) (k0_hw28 : k0_chk28 v1935), (k0_dev28 v1935) < nD := fun v1935 k0_hw28 => k0_hw28

def k0_dev29 (v2063 : BitVec 32) : Nat :=
  let c0_i32_1114 : BitVec 32 := 0#32
  let c1_i32_1113 : BitVec 32 := 1#32
  let v2064 : BitVec 32 := Scalar.muli v2063 c1_i32_1113
  let v2065 : BitVec 32 := Scalar.addi c0_i32_1114 v2064
  v2065.toNat

def k0_chk29 (v2063 : BitVec 32) : Prop :=
  ((k0_dev29 v2063) < nD)
theorem k0_dev29_lt : ∀ (v2063 : BitVec 32) (k0_hw29 : k0_chk29 v2063), (k0_dev29 v2063) < nD := fun v2063 k0_hw29 => k0_hw29

def k0_dev30 (v2092 : BitVec 32) : Nat :=
  let c0_i32_1143 : BitVec 32 := 0#32
  let c1_i32_1142 : BitVec 32 := 1#32
  let v2093 : BitVec 32 := Scalar.muli v2092 c1_i32_1142
  let v2094 : BitVec 32 := Scalar.addi c0_i32_1143 v2093
  v2094.toNat

def k0_chk30 (v2092 : BitVec 32) : Prop :=
  ((k0_dev30 v2092) < nD)
theorem k0_dev30_lt : ∀ (v2092 : BitVec 32) (k0_hw30 : k0_chk30 v2092), (k0_dev30 v2092) < nD := fun v2092 k0_hw30 => k0_hw30

def k0_dev31 (v2220 : BitVec 32) : Nat :=
  let c0_i32_1202 : BitVec 32 := 0#32
  let c1_i32_1201 : BitVec 32 := 1#32
  let v2221 : BitVec 32 := Scalar.muli v2220 c1_i32_1201
  let v2222 : BitVec 32 := Scalar.addi c0_i32_1202 v2221
  v2222.toNat

def k0_chk31 (v2220 : BitVec 32) : Prop :=
  ((k0_dev31 v2220) < nD)
theorem k0_dev31_lt : ∀ (v2220 : BitVec 32) (k0_hw31 : k0_chk31 v2220), (k0_dev31 v2220) < nD := fun v2220 k0_hw31 => k0_hw31

def k0_dev32 (v2249 : BitVec 32) : Nat :=
  let c0_i32_1231 : BitVec 32 := 0#32
  let c1_i32_1230 : BitVec 32 := 1#32
  let v2250 : BitVec 32 := Scalar.muli v2249 c1_i32_1230
  let v2251 : BitVec 32 := Scalar.addi c0_i32_1231 v2250
  v2251.toNat

def k0_chk32 (v2249 : BitVec 32) : Prop :=
  ((k0_dev32 v2249) < nD)
theorem k0_dev32_lt : ∀ (v2249 : BitVec 32) (k0_hw32 : k0_chk32 v2249), (k0_dev32 v2249) < nD := fun v2249 k0_hw32 => k0_hw32

def k0_dev33 (v2377 : BitVec 32) : Nat :=
  let c0_i32_1290 : BitVec 32 := 0#32
  let c1_i32_1289 : BitVec 32 := 1#32
  let v2378 : BitVec 32 := Scalar.muli v2377 c1_i32_1289
  let v2379 : BitVec 32 := Scalar.addi c0_i32_1290 v2378
  v2379.toNat

def k0_chk33 (v2377 : BitVec 32) : Prop :=
  ((k0_dev33 v2377) < nD)
theorem k0_dev33_lt : ∀ (v2377 : BitVec 32) (k0_hw33 : k0_chk33 v2377), (k0_dev33 v2377) < nD := fun v2377 k0_hw33 => k0_hw33

def k0_dev34 (v2406 : BitVec 32) : Nat :=
  let c0_i32_1319 : BitVec 32 := 0#32
  let c1_i32_1318 : BitVec 32 := 1#32
  let v2407 : BitVec 32 := Scalar.muli v2406 c1_i32_1318
  let v2408 : BitVec 32 := Scalar.addi c0_i32_1319 v2407
  v2408.toNat

def k0_chk34 (v2406 : BitVec 32) : Prop :=
  ((k0_dev34 v2406) < nD)
theorem k0_dev34_lt : ∀ (v2406 : BitVec 32) (k0_hw34 : k0_chk34 v2406), (k0_dev34 v2406) < nD := fun v2406 k0_hw34 => k0_hw34

def k0_dev35 (v2534 : BitVec 32) : Nat :=
  let c0_i32_1378 : BitVec 32 := 0#32
  let c1_i32_1377 : BitVec 32 := 1#32
  let v2535 : BitVec 32 := Scalar.muli v2534 c1_i32_1377
  let v2536 : BitVec 32 := Scalar.addi c0_i32_1378 v2535
  v2536.toNat

def k0_chk35 (v2534 : BitVec 32) : Prop :=
  ((k0_dev35 v2534) < nD)
theorem k0_dev35_lt : ∀ (v2534 : BitVec 32) (k0_hw35 : k0_chk35 v2534), (k0_dev35 v2534) < nD := fun v2534 k0_hw35 => k0_hw35

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x128 : Shape := ⟨2, ![8192, 128]⟩
abbrev S128x64 : Shape := ⟨2, ![128, 64]⟩
abbrev S8192x2 : Shape := ⟨2, ![8192, 2]⟩
abbrev S64x128x256 : Shape := ⟨3, ![64, 128, 256]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x128x256 : Shape := ⟨3, ![8192, 128, 256]⟩
abbrev S8192x256 : Shape := ⟨2, ![8192, 256]⟩

abbrev nBuf : Space → Nat
  | .hbm => 87
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S8192x2, .i32⟩
  | .hbm, ⟨3, _⟩ => ⟨S64x128x256, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x1, .i32⟩
  | .hbm, ⟨17, _⟩ => ⟨S8192, .i32⟩
  | .hbm, ⟨18, _⟩ => ⟨S8192x1, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x1, .i32⟩
  | .hbm, ⟨37, _⟩ => ⟨S8192x2, .i32⟩
  | .hbm, ⟨38, _⟩ => ⟨S8192, .f32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x1, .i32⟩
  | .hbm, ⟨55, _⟩ => ⟨S8192x2, .i32⟩
  | .hbm, ⟨56, _⟩ => ⟨S8192, .f32⟩
  | .hbm, ⟨57, _⟩ => ⟨S8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S8192x128x256, .f32⟩
  | .hbm, ⟨67, _⟩ => ⟨S8192x256, .f32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S8192x128x256, .f32⟩
  | .hbm, ⟨77, _⟩ => ⟨S8192x256, .f32⟩
  | .hbm, ⟨78, _⟩ => ⟨S8192, .f32⟩
  | .hbm, ⟨79, _⟩ => ⟨S8192x1, .f32⟩
  | .hbm, ⟨80, _⟩ => ⟨S8192x256, .f32⟩
  | .hbm, ⟨81, _⟩ => ⟨S8192x256, .f32⟩
  | .hbm, ⟨82, _⟩ => ⟨S8192, .f32⟩
  | .hbm, ⟨83, _⟩ => ⟨S8192x1, .f32⟩
  | .hbm, ⟨84, _⟩ => ⟨S8192x256, .f32⟩
  | .hbm, ⟨85, _⟩ => ⟨S8192x256, .f32⟩
  | .hbm, ⟨86, _⟩ => ⟨S8192x256, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Body.lean ====
/-
The kernel's body as ONE text over a symbolic hop.

The printed body is five thousand statements: sixteen hops written out in turn. Here the same program is written once
per hop, over the hop's number, a program in each function taking what follows it as an argument; `body_eq` says that
the printed body is it. Everything later is proved of this text.
-/
module

public import proofs.«01_k».proof.Proof.Gen.KernelIdeal
public import Idealize.ShloMosaic.Lib.Pipeline.Launch
public import Idealize.ShloMosaic.Lib.Pipeline.Regions

@[expose] public section

noncomputable section

namespace Cert.RingMoe

open Cert.KernelIdeal Cert.KernelIdeal.Gen
open Idealize.ShloMosaic Idealize.SL.Sem

variable {F : FTy → Type} [FloatOps F]

/-! ## The ring's tables and the words computed from them -/

/-- The device at each position of the ring, and the position of each device. -/
def permWords : List (BitVec 32) :=
  [1#32, 2#32, 5#32, 6#32, 14#32, 13#32, 10#32, 9#32, 17#32, 18#32, 21#32, 22#32, 30#32, 29#32, 26#32, 25#32,
   24#32, 27#32, 28#32, 31#32, 23#32, 20#32, 19#32, 16#32, 8#32, 11#32, 12#32, 15#32, 7#32, 4#32, 3#32, 0#32]
def invWords : List (BitVec 32) :=
  [31#32, 0#32, 1#32, 30#32, 29#32, 2#32, 3#32, 28#32, 24#32, 7#32, 6#32, 25#32, 26#32, 5#32, 4#32, 27#32,
   23#32, 8#32, 9#32, 22#32, 21#32, 10#32, 11#32, 20#32, 16#32, 15#32, 14#32, 17#32, 18#32, 13#32, 12#32, 19#32]

/-- The row 0, 1, …, 31. -/
def iotaRow : IVec S1x32 32 := iota .tc S1x32 32 [1] iota_S1x32_d1_w32

/-- A row filled word by word from place `i`: each word replaces the row's entry where the place is its own. -/
def fillRow : ℕ → List (BitVec 32) → IVec S1x32 32 → IVec S1x32 32
  | _, [], acc => acc
  | i, w :: ws, acc => fillRow (i + 1) ws (select (cmpi .eq iotaRow (broadcast S1x32 (BitVec.ofNat 32 i))) (broadcast S1x32 w) acc)

def permRow : IVec S1x32 32 := fillRow 0 permWords (broadcast S1x32 0#32)
def invRow : IVec S1x32 32 := fillRow 0 invWords (broadcast S1x32 0#32)

/-- The row's entry at place `i`, read as the sum of the row masked to that place. -/
def lookup (row : IVec S1x32 32) (i : BitVec 32) : BitVec 32 :=
  extractAt ![0, 0, 0] (shapeCast S1x1x1 (multiReductionI .add [1, 2] S1
    (shapeCast S1x1x32 (select (cmpi .eq iotaRow (broadcast S1x32 i)) row (broadcast S1x32 0#32)) shapeCasts_S1x32_S1x1x32)
    0#32 reduces_S1x1x32_S1 rfl) shapeCasts_S1_S1x1x1) inpos_S1x1x1_p0_0_0

/-- A device's own id, its ring position, and the devices at an offset from a position. -/
def posWord (d : Dev nD) : BitVec 32 := Scalar.remsi (Scalar.divsi (Dev.word d) 1#32) 32#32
def ringWord (d : Dev nD) : BitVec 32 := lookup invRow (posWord d)
def nearWord (r o : BitVec 32) : BitVec 32 := lookup permRow (Scalar.remsi (Scalar.addi (Scalar.addi r o) 32#32) 32#32)
/-- Where the block that came `n` hops from the left (from the right) started. -/
def backWord (r : BitVec 32) (n : ℕ) : BitVec 32 :=
  lookup permRow (Scalar.remsi (Scalar.addi (Scalar.subi r (BitVec.ofNat 32 n)) 32#32) 32#32)
def foreWord (r : BitVec 32) (n : ℕ) : BitVec 32 := lookup permRow (Scalar.remsi (Scalar.addi r (BitVec.ofNat 32 n)) 32#32)

/-! ## The values -/

/-- The routing probabilities: each row's softmax of its router scores. -/
def probs (x : Vec F S256x128 .f32) (rw : Vec F S128x64 .f32) : FVec F S256x64 .f32 :=
  let s : FVec F S256x64 .f32 := matmul dot_S256x128_S128x64_S256x64_1_0_0_1_n_n none (shapeCast S256x128 x shapeCasts_S256x128_S256x128 : FVec F S256x128 .f32)
    (shapeCast S128x64 rw shapeCasts_S128x64_S128x64 : FVec F S128x64 .f32) (constant S256x64 .f32 0x00000000#32)
  let e : FVec F S256x64 .f32 := exp (subf s (broadcastTo S256x64 (shapeCast S256x1 (multiReduction .maximumf [1] S256 s 0xFF800000#32 reduces_S256x64_S256 (.inl rfl) rfl) shapeCasts_S256_S256x1) broadcasts_S256x1_S256x64))
  divf e (broadcastTo S256x64 (shapeCast S256x1 (multiReduction .add [1] S256 e 0x00000000#32 reduces_S256x64_S256 (.inl rfl) rfl) shapeCasts_S256_S256x1) broadcasts_S256x1_S256x64)

/-- A token's expert ids, as the kernel holds a column of them. -/
def ids (v : Vec F S256x1 .i32) : IVec S256x1 32 := shapeCast S256x1 v shapeCasts_S256x1_S256x1

/-- Each row's entry at its id: the sum of the row masked to it. -/
def pick (p : FVec F S256x64 .f32) (e : IVec S256x1 32) : FVec F S256x1 .f32 :=
  shapeCast S256x1 (multiReduction .add [1] S256 (select (cmpi .eq (iota .tc S256x64 32 [1] iota_S256x64_d1_w32) (broadcastTo S256x64 e broadcasts_S256x1_S256x64)) p
    (broadcast S256x64 (Scalar.ofBits .f32 0x00000000#32))) 0x00000000#32 reduces_S256x64_S256 (.inl rfl) rfl) shapeCasts_S256_S256x1

/-- What a device's kernel keeps of its tokens: the tokens narrowed, the two columns of ids and the two weights. -/
structure Toks (F : FTy → Type) where
  xb : FVec F S256x128 .bf16
  e0 : IVec S256x1 32
  e1 : IVec S256x1 32
  w0 : FVec F S256x1 .f32
  w1 : FVec F S256x1 .f32

def toksOf (x : Vec F S256x128 .f32) (rw : Vec F S128x64 .f32) (i0 i1 : Vec F S256x1 .i32) : Toks F where
  xb := truncf .bf16 (shapeCast S256x128 x shapeCasts_S256x128_S256x128 : FVec F S256x128 .f32) bitsLt_bf16_f32
  e0 := ids (F := F) i0
  e1 := ids (F := F) i1
  w0 := divf (pick (probs x rw) (ids (F := F) i0)) (addf (pick (probs x rw) (ids (F := F) i0)) (pick (probs x rw) (ids (F := F) i1)))
  w1 := divf (pick (probs x rw) (ids (F := F) i1)) (addf (pick (probs x rw) (ids (F := F) i0)) (pick (probs x rw) (ids (F := F) i1)))

/-- The weight of expert `e` at each token. -/
def maskOf (t : Toks F) (e : BitVec 32) : FVec F S256x1 .bf16 :=
  truncf .bf16 (addf (mulf t.w0 (sitofp .f32 (extui 32 (cmpi .eq t.e0 (broadcast S256x1 e)) natLt_1_32)))
    (mulf t.w1 (sitofp .f32 (extui 32 (cmpi .eq t.e1 (broadcast S256x1 e)) natLt_1_32)))) bitsLt_bf16_f32

/-- The tokens under the weights of the two experts of device `o`, side by side. -/
def wideToks (t : Toks F) (o : BitVec 32) : FVec F S256x256 .bf16 :=
  concatenate S256x256 1 [⟨S256x128, mulf t.xb (broadcastTo S256x128 (maskOf t (Scalar.muli o 2#32)) broadcasts_S256x1_S256x128)⟩,
    ⟨S256x128, mulf t.xb (broadcastTo S256x128 (maskOf t (Scalar.addi (Scalar.muli o 2#32) 1#32)) broadcasts_S256x1_S256x128)⟩]
    concatenates_S256x128_S256x128_S256x256_d1

/-- What the experts of device `o`, whose weights are `w`, add to each token. -/
def contrib (t : Toks F) (o : BitVec 32) (w : Vec F S2x128x256 .bf16) : FVec F S256x256 .f32 :=
  matmul dot_S256x256_S256x256_S256x256_1_0_0_1_n_n none (wideToks t o) (shapeCast S256x256 w shapeCasts_S2x128x256_S256x256 : FVec F S256x256 .bf16)
    (constant S256x256 .f32 0x00000000#32)

/-- The running result `a`, with what a slot's block adds. -/
def addSlot (t : Toks F) (o : BitVec 32) (a : Vec F S256x256 .f32) (w : Vec F S1x2x128x256 .bf16) : FVec F S256x256 .f32 :=
  addf (shapeCast S256x256 a shapeCasts_S256x256_S256x256 : FVec F S256x256 .f32)
    (contrib t o (shapeCast S2x128x256 w shapeCasts_S1x2x128x256_S2x128x256))

/-- A device's two experts narrowed. -/
def narrow (w : Vec F S2x128x256 .f32) : FVec F S2x128x256 .bf16 :=
  shapeCast S2x128x256 (truncf .bf16 (shapeCast S2x128x256 w shapeCasts_S2x128x256_S2x128x256 : FVec F S2x128x256 .f32) bitsLt_bf16_f32 : FVec F S2x128x256 .bf16) shapeCasts_S2x128x256_S2x128x256

/-! ## The slots: of the two receive buffers and of the four semaphore arrays, by a number -/

theorem inb16 (k : ℕ) : ∀ a, (![k % 16, 0, 0, 0] : Fin 4 → Nat) a + S1x2x128x256.size a ≤ S16x2x128x256.size a := by
  have h : k % 16 < 16 := Nat.mod_lt _ (by decide)
  generalize k % 16 = j at h
  exact (by decide : ∀ j : Fin 16, ∀ a, (![j.val, 0, 0, 0] : Fin 4 → Nat) a + S1x2x128x256.size a ≤ S16x2x128x256.size a) ⟨j, h⟩
theorem inb15 (k : ℕ) : ∀ a, (![k % 15, 0, 0, 0] : Fin 4 → Nat) a + S1x2x128x256.size a ≤ S15x2x128x256.size a := by
  have h : k % 15 < 15 := Nat.mod_lt _ (by decide)
  generalize k % 15 = j at h
  exact (by decide : ∀ j : Fin 15, ∀ a, (![j.val, 0, 0, 0] : Fin 4 → Nat) a + S1x2x128x256.size a ≤ S15x2x128x256.size a) ⟨j, h⟩
theorem inbS16 (k : ℕ) : ∀ a, (![k % 16] : Fin 1 → Nat) a + S1.size a ≤ S16.size a := by
  have h : k % 16 < 16 := Nat.mod_lt _ (by decide)
  generalize k % 16 = j at h
  exact (by decide : ∀ j : Fin 16, ∀ a, (![j.val] : Fin 1 → Nat) a + S1.size a ≤ S16.size a) ⟨j, h⟩
theorem inbS15 (k : ℕ) : ∀ a, (![k % 15] : Fin 1 → Nat) a + S1.size a ≤ S15.size a := by
  have h : k % 15 < 15 := Nat.mod_lt _ (by decide)
  generalize k % 15 = j at h
  exact (by decide : ∀ j : Fin 15, ∀ a, (![j.val] : Fin 1 → Nat) a + S1.size a ≤ S15.size a) ⟨j, h⟩

abbrev rect16 (k : ℕ) : Rect S16x2x128x256 := Rect.unit (s := S16x2x128x256) ![k % 16, 0, 0, 0] S1x2x128x256.size (inb16 k)
abbrev rect15 (k : ℕ) : Rect S15x2x128x256 := Rect.unit (s := S15x2x128x256) ![k % 15, 0, 0, 0] S1x2x128x256.size (inb15 k)

theorem words16 (k : ℕ) : (rect16 k).WholeWords (EltTy.packing .bf16) := by
  have h : k % 16 < 16 := Nat.mod_lt _ (by decide)
  unfold rect16
  generalize inb16 k = hk
  generalize k % 16 = j at h hk
  exact (by decide : ∀ (j : Fin 16) (hk : ∀ a, (![j.val, 0, 0, 0] : Fin 4 → Nat) a + S1x2x128x256.size a ≤ S16x2x128x256.size a),
    (Rect.unit (s := S16x2x128x256) ![j.val, 0, 0, 0] S1x2x128x256.size hk).WholeWords (EltTy.packing .bf16)) ⟨j, h⟩ hk
theorem words15 (k : ℕ) : (rect15 k).WholeWords (EltTy.packing .bf16) := by
  have h : k % 15 < 15 := Nat.mod_lt _ (by decide)
  unfold rect15
  generalize inb15 k = hk
  generalize k % 15 = j at h hk
  exact (by decide : ∀ (j : Fin 15) (hk : ∀ a, (![j.val, 0, 0, 0] : Fin 4 → Nat) a + S1x2x128x256.size a ≤ S15x2x128x256.size a),
    (Rect.unit (s := S15x2x128x256) ![j.val, 0, 0, 0] S1x2x128x256.size hk).WholeWords (EltTy.packing .bf16)) ⟨j, h⟩ hk

/-- What the body is called with. -/
structure Args where
  x : Memref sig .tc .vmem S256x128 .f32
  hx : x.IsWhole
  rw : Memref sig .tc .vmem S128x64 .f32
  hrw : rw.IsWhole
  ri : Memref sig .tc .vmem S256x2 .i32
  hri : ri.IsWhole
  ew : Memref sig .tc .vmem S2x128x256 .f32
  hew : ew.IsWhole
  out : Memref sig .tc .vmem S256x256 .f32
  hout : out.IsWhole
  own : Memref sig .tc .vmem S2x128x256 .bf16
  hown : own.IsWhole
  bR : Memref sig .tc .vmem S16x2x128x256 .bf16
  hbR : bR.IsWhole
  bL : Memref sig .tc .vmem S15x2x128x256 .bf16
  hbL : bL.IsWhole
  sR : DmaSems sig S16
  rR : DmaSems sig S16
  sL : DmaSems sig S15
  rL : DmaSems sig S15

variable (A : Args)

/-- The slots, and that transfers move them in whole words. `true` is the clockwise direction, `false` the other. -/
def slotOf : Bool → ℕ → Memref sig .tc .vmem S2x128x256 .bf16
  | true, k => (A.bR.slice (rect16 k) (fun _ => rfl)).squeeze S2x128x256 squeezes_S1x2x128x256_S2x128x256
  | false, k => (A.bL.slice (rect15 k) (fun _ => rfl)).squeeze S2x128x256 squeezes_S1x2x128x256_S2x128x256
theorem slotOf_words : ∀ (b : Bool) (k : ℕ), (slotOf A b k).view.WordExact
  | true, k => (A.hbR.wordExact_slice rfl _ (words16 k)).reshape _ _
  | false, k => (A.hbL.wordExact_slice rfl _ (words15 k)).reshape _ _
def sendOf : Bool → ℕ → DmaSem sig
  | true, k => ((A.sR.slice (Rect.unit (s := S16) ![k % 16] S1.size (inbS16 k))).squeeze S_ squeezes_S1_S_).sem
  | false, k => ((A.sL.slice (Rect.unit (s := S15) ![k % 15] S1.size (inbS15 k))).squeeze S_ squeezes_S1_S_).sem
def recvOf : Bool → ℕ → DmaSem sig
  | true, k => ((A.rR.slice (Rect.unit (s := S16) ![k % 16] S1.size (inbS16 k))).squeeze S_ squeezes_S1_S_).sem
  | false, k => ((A.rL.slice (Rect.unit (s := S15) ![k % 15] S1.size (inbS15 k))).squeeze S_ squeezes_S1_S_).sem

/-! ## The program -/

abbrev Pr (F : FTy → Type) [FloatOps F] : Type 1 := Prog (TpuEff nD τ sig (Elt F) Λ₀ .tc) PUnit

abbrev barS : Sem sig := (SemArray.scalar (sig.barrier 0 rfl) : Sems sig S_).sem

/-- A device's id read off a word, once the word is checked to be one. -/
def toDev (w : BitVec 32) (k : Dev nD → Pr F) : Pr F :=
  .op (TpuEff.assume (k0_chk1 w) (k0_chk1.dec w)) fun h => k ⟨k0_dev1 w, k0_dev1_lt w h.down⟩

/-- Send the block `src` into the slot `k` of device `n`, in direction `b`: on the pair of semaphores `s`, `r`, and on the slot's own pair. -/
def sendVia (s r : DmaSem sig) (b : Bool) (k : ℕ) (src : Memref sig .tc .vmem S2x128x256 .bf16) (hsrc : src.view.WordExact) (n : Dev nD) (K : Pr F) : Pr F :=
  .op (.enqueueDma src (.remote (Dev.tc n) (slotOf A b k) (.dma s)) (.dma r) hsrc (slotOf_words A b k) ⟨⟨rfl, Or.inl rfl⟩, trivial⟩) fun _ => K
def sendTo (b : Bool) (k : ℕ) (src : Memref sig .tc .vmem S2x128x256 .bf16) (hsrc : src.view.WordExact) (n : Dev nD) (K : Pr F) : Pr F :=
  sendVia A (sendOf A b k) (recvOf A b k) b k src hsrc n K

/-- Wait for the slot's block to come; wait for the slot's send to be done. -/
def waitRecv (b : Bool) (k : ℕ) (K : Pr F) : Pr F :=
  .op (.waitDma2 (recvOf A b k) (slotOf A b k) (slotOf A b k) (slotOf_words A b k) (slotOf_words A b k)) fun _ => K
def waitSend (b : Bool) (k : ℕ) (src : Memref sig .tc .vmem S2x128x256 .bf16) (hsrc : src.view.WordExact) (K : Pr F) : Pr F :=
  .op (.waitDma2 (sendOf A b k) (slotOf A b k) src (slotOf_words A b k) hsrc) fun _ => K

abbrev outRect : Rect S256x256 := Rect.unit (s := S256x256) ![0, 0] S256x256.size inb_S256x256_S256x256_0_0
abbrev pairRect : Rect S2x128x256 := Rect.unit (s := S2x128x256) ![0, 0, 0] S2x128x256.size inb_S2x128x256_S2x128x256_0_0_0

def loadOut (k : Vec F S256x256 .f32 → Pr F) : Pr F := .op (.load A.out outRect.toLoadRect (View.loadsAt_vmem h_S256x256)) k
def storeOut (v : FVec F S256x256 .f32) (K : Pr F) : Pr F :=
  .op (.store A.out outRect v Finset.univ (View.stores_vmem_bits_univ h_S256x256 rfl) (.inl rfl)) fun _ => K
def loadSlot : (b : Bool) → (k : ℕ) → (Vec F S1x2x128x256 .bf16 → Pr F) → Pr F
  | true, k, K => .op (.load A.bR (rect16 k).toLoadRect (View.loadsAt_vmem h_S1x2x128x256)) K
  | false, k, K => .op (.load A.bL (rect15 k).toLoadRect (View.loadsAt_vmem h_S1x2x128x256)) K

/-- The result takes in what slot `k`'s block, which started on the device `o`, adds. -/
def accum (t : Toks F) (b : Bool) (k : ℕ) (o : BitVec 32) (K : Pr F) : Pr F :=
  loadOut A fun a => loadSlot A b k fun w => loadOut A fun _ => storeOut A (addSlot t o a w) K

/-- The offset, in ring positions, to which direction `b` sends on. -/
def strideWord : Bool → BitVec 32
  | true => 2#32
  | false => 4294967294#32
def unitWord : Bool → BitVec 32
  | true => 1#32
  | false => 4294967295#32

/-- Where the block in slot `k` started. -/
def originWord (r : BitVec 32) : Bool → ℕ → BitVec 32
  | true, k => backWord r (k + 1)
  | false, k => foreWord r (k + 1)

/-- Send slot `k` on, to the slot two further. -/
def forward (r : BitVec 32) (b : Bool) (k : ℕ) (K : Pr F) : Pr F :=
  toDev (nearWord r (strideWord b)) fun n => sendTo A b (k + 2) (slotOf A b k) (slotOf_words A b k) n K

def onlyIf (p : Prop) [Decidable p] (q : Pr F → Pr F) (K : Pr F) : Pr F := if p then q K else K

/-- Hop `k`: the clockwise block comes and is sent on, the other likewise, and the result takes them in. -/
def hop (r : BitVec 32) (t : Toks F) (k : ℕ) (K : Pr F) : Pr F :=
  waitRecv A true k <| onlyIf (k < 14) (forward A r true k) <|
  onlyIf (k < 15) (fun K => waitRecv A false k <| onlyIf (k < 13) (forward A r false k) K) <|
  accum A t true k (originWord r true k) <|
  onlyIf (k < 15) (accum A t false k (originWord r false k)) K

/-- The last `n` of the sixteen hops. -/
def hops (r : BitVec 32) (t : Toks F) : ℕ → Pr F → Pr F
  | 0, K => K
  | n + 1, K => hop A r t (15 - n) (hops r t n K)

/-- What a slot's send read: the device's own block for the first two, the slot two before for the rest. -/
def srcOf (b : Bool) (k : ℕ) : Memref sig .tc .vmem S2x128x256 .bf16 := if k < 2 then A.own else slotOf A b (k - 2)
theorem srcOf_words (b : Bool) (k : ℕ) : (srcOf A b k).view.WordExact := by
  unfold srcOf; split
  · exact A.hown.wordExact
  · exact slotOf_words A b _

/-- The waits for the sends of the last `n` of the sixteen slot numbers. -/
def drains : ℕ → Pr F → Pr F
  | 0, K => K
  | n + 1, K => waitSend A true (15 - n) (srcOf A true (15 - n)) (srcOf_words A _ _) <|
      onlyIf (15 - n < 15) (waitSend A false (15 - n) (srcOf A false (15 - n)) (srcOf_words A _ _)) (drains n K)

/-- One signal on the barrier cell of device `n`. -/
def signal (n : Dev nD) (K : Pr F) : Pr F := .op (.semSignal (Dev.tc n) barS (1#32 : BitVec 32).toInt) fun _ => K

/-- The first sends of the device's own block, to the neighbours at one step and at two. -/
def firstSend (r : BitVec 32) (b : Bool) (k : ℕ) (o : BitVec 32) (K : Pr F) : Pr F :=
  toDev (nearWord r o) fun n => sendTo A b k A.own A.hown.wordExact n K

/-- The device's own block narrowed into its buffer. -/
def fillOwn (K : Pr F) : Pr F :=
  .op (.load A.ew pairRect.toLoadRect (View.loadsAt_vmem h_S2x128x256)) fun w =>
  .op (.load A.own pairRect.toLoadRect (View.loadsAt_vmem h_S2x128x256)) fun _ =>
  .op (.store A.own pairRect (narrow w) Finset.univ (View.stores_vmem h_S2x128x256 (A.hown.storeExact_slice rfl _ packedbf16_S2x128x256_S2x128x256_0_0_0) (fun _ => rfl)) (.inl rfl)) fun _ => K

/-- The tokens, the router's weights and the two columns of ids, read. -/
def readToks (k : Toks F → Pr F) : Pr F :=
  .op (.load A.x (Rect.unit (s := S256x128) ![0, 0] S256x128.size inb_S256x128_S256x128_0_0).toLoadRect (View.loadsAt_vmem h_S256x128)) fun x =>
  .op (.load A.rw (Rect.unit (s := S128x64) ![0, 0] S128x64.size inb_S128x64_S128x64_0_0).toLoadRect (View.loadsAt_vmem h_S128x64)) fun w =>
  .op (.load A.ri (Rect.unit (s := S256x2) ![0, 0] S256x1.size inb_S256x2_S256x1_0_0).toLoadRect (View.loadsAt_vmem h_S256x1)) fun i0 =>
  .op (.load A.ri (Rect.unit (s := S256x2) ![0, 1] S256x1.size inb_S256x2_S256x1_0_1).toLoadRect (View.loadsAt_vmem h_S256x1)) fun i1 =>
  k (toksOf x w i0 i1)

/-- The result started from the device's own block. -/
def startOut (t : Toks F) (o : BitVec 32) (K : Pr F) : Pr F :=
  .op (.load A.own pairRect.toLoadRect (View.loadsAt_vmem h_S2x128x256)) fun w =>
  loadOut A fun _ => storeOut A (contrib t o w) K

/-- The four signals and the wait for four: no device's slots are written before it has started. -/
def barrier (r : BitVec 32) (K : Pr F) : Pr F :=
  toDev (nearWord r 1#32) fun n₁ => toDev (nearWord r 4294967295#32) fun n₂ => signal n₁ <| signal n₂ <|
  toDev (nearWord r 2#32) fun n₃ => toDev (nearWord r 4294967294#32) fun n₄ => signal n₃ <| signal n₄ <|
  .op (.semWait barS (4#32 : BitVec 32).toInt) fun _ => K

def body : Pr F :=
  .op .deviceId fun d =>
  barrier (ringWord d) <| fillOwn A <|
  firstSend A (ringWord d) true 0 1#32 <| firstSend A (ringWord d) false 0 4294967295#32 <|
  firstSend A (ringWord d) true 1 2#32 <| firstSend A (ringWord d) false 1 4294967294#32 <|
  readToks A fun t => startOut A t (posWord d) <|
  hops A (ringWord d) t 16 <| drains A 16 <| .ret ⟨⟩

set_option maxRecDepth 100000 in
/-- The printed body is the text above. -/
theorem body_eq : cc0_body (F := F) A.x A.hx A.rw A.hrw A.ri A.hri A.ew A.hew A.out A.hout A.own A.hown A.bR A.hbR A.bL A.hbL A.sR A.rR A.sL A.rL = body A := by
  chain_rfl

end Cert.RingMoe

end
-- ==== Proof.Ring.lean ====
/-
The ring. The kernel places the devices on a ring by a table and finds a neighbour by looking the table up at a sum of
positions; here those words are computed: the neighbour of device `c` at offset `o` is `near o c`, a rotation of the
ring, so that near (a) (near b c) = near (a + b) c.
-/
module

public import proofs.«01_k».proof.Proof.Body

@[expose] public section

noncomputable section

namespace Cert.RingMoe

open Cert.KernelIdeal Cert.KernelIdeal.Gen
open Idealize.ShloMosaic Idealize.SL.Sem

/-- The device at each position of the ring, and the position of each device. -/
def perm (p : Fin 32) : Dev nD :=
  (![1, 2, 5, 6, 14, 13, 10, 9, 17, 18, 21, 22, 30, 29, 26, 25, 24, 27, 28, 31, 23, 20, 19, 16, 8, 11, 12, 15, 7, 4, 3, 0] : Fin 32 → Fin 32) p
def inv (d : Dev nD) : Fin 32 :=
  (![31, 0, 1, 30, 29, 2, 3, 28, 24, 7, 6, 25, 26, 5, 4, 27, 23, 8, 9, 22, 21, 10, 11, 20, 16, 15, 14, 17, 18, 13, 12, 19] : Fin 32 → Fin 32) d

theorem perm_inv : ∀ d : Dev nD, perm (inv d) = d := by decide
theorem inv_perm : ∀ p : Fin 32, inv (perm p) = p := by decide

theorem lookup_perm : ∀ p : Fin 32, lookup permRow (BitVec.ofNat 32 p.val) = BitVec.ofNat 32 (perm p).val := by decide +kernel
theorem lookup_inv : ∀ d : Fin 32, lookup invRow (BitVec.ofNat 32 d.val) = BitVec.ofNat 32 (inv d).val := by decide +kernel

/-- The device `o` places further on the ring. -/
def near (o : Fin 32) (c : Dev nD) : Dev nD := perm (inv c + o)

theorem fin_assoc (a b c : Fin 32) : a + b + c = a + (b + c) := Fin.ext (by simp only [Fin.val_add]; omega)
theorem fin_zero : ∀ a : Fin 32, a + 0 = a := by decide
theorem fin_neg : ∀ a : Fin 32, a + -a = 0 ∧ -a + a = 0 := by decide

theorem near_near (a b : Fin 32) (c : Dev nD) : near a (near b c) = near (b + a) c := by
  unfold near; rw [inv_perm, fin_assoc]
theorem near_zero (c : Dev nD) : near 0 c = c := by unfold near; rw [fin_zero, perm_inv]
theorem near_back (o : Fin 32) (c : Dev nD) : near (-o) (near o c) = c := by rw [near_near, (fin_neg o).1, near_zero]
theorem near_forth (o : Fin 32) (c : Dev nD) : near o (near (-o) c) = c := by rw [near_near, (fin_neg o).2, near_zero]
theorem near_eq_iff {o : Fin 32} {c d : Dev nD} : near o d = c ↔ d = near (-o) c :=
  ⟨fun h => by rw [← h, near_back], fun h => by rw [h, near_forth]⟩

/-- The rotation by `o`. -/
def turnBy (o : Fin 32) : Dev nD ≃ Dev nD := ⟨near o, near (-o), near_back o, near_forth o⟩

/-- How many slots each direction has: the clockwise buffer sixteen, the other fifteen. -/
def len : Bool → ℕ
  | true => 16
  | false => 15

/-- How far direction `b` sends into slot `k`: one place into slot 0, two places into the others. -/
def off : Bool → ℕ → Fin 32
  | true, 0 => 1
  | true, _ + 1 => 2
  | false, 0 => 31
  | false, _ + 1 => 30
/-- The device whose slot `k` in direction `b` device `c` fills. -/
def tgt (b : Bool) (k : ℕ) (c : Dev nD) : Dev nD := near (off b k) c
/-- How far along the ring the block of slot `k` in direction `b` started, and that device. -/
def far : Bool → ℕ → Fin 32
  | true, k => -(Fin.ofNat 32 (k + 1))
  | false, k => Fin.ofNat 32 (k + 1)
def origin (b : Bool) (k : ℕ) (c : Dev nD) : Dev nD := near (far b k) c

theorem far_first : ∀ b : Bool, off b 0 + far b 0 = 0 ∧ off b 1 + far b 1 = 0 := by decide
theorem far_next : ∀ (b : Bool) (k : Fin 16), off b (k.val + 2) + far b (k.val + 2) = far b k.val := by decide

/-- A first send fills the target's slot with the sender's own block; -/
theorem origin_tgt_first (b : Bool) (k : ℕ) (hk : k < 2) (c : Dev nD) : origin b k (tgt b k c) = c := by
  unfold origin tgt
  obtain rfl | rfl : k = 0 ∨ k = 1 := by omega
  · rw [near_near, (far_first b).1, near_zero]
  · rw [near_near, (far_first b).2, near_zero]
/-- a later send fills slot `k + 2` with the block the sender's slot `k` holds. -/
theorem origin_tgt_next (b : Bool) (k : ℕ) (hk : k < 16) (c : Dev nD) : origin b (k + 2) (tgt b (k + 2) c) = origin b k c := by
  unfold origin tgt
  rw [near_near, far_next b ⟨k, hk⟩]

/-! ## The words -/

/-- The number of a device as a word. -/
def devWord (d : Dev nD) : BitVec 32 := BitVec.ofNat 32 d.val

theorem posWord_eq : ∀ d : Dev nD, posWord d = devWord d := by decide +kernel
theorem ringWord_eq (d : Dev nD) : ringWord d = BitVec.ofNat 32 (inv d).val := by
  unfold ringWord; rw [posWord_eq]; exact lookup_inv d

/-- The offset word of a send into slot `k`. -/
def offWord : Bool → ℕ → BitVec 32
  | b, 0 => unitWord b
  | b, _ + 1 => strideWord b

theorem placeNear : ∀ (b j : Bool) (p : Fin 32),
    Scalar.remsi (Scalar.addi (Scalar.addi (BitVec.ofNat 32 p.val) (offWord b j.toNat)) 32#32) 32#32
      = BitVec.ofNat 32 (p + off b j.toNat).val := by decide +kernel
theorem placeBack : ∀ (k : Fin 16) (p : Fin 32),
    Scalar.remsi (Scalar.addi (Scalar.subi (BitVec.ofNat 32 p.val) (BitVec.ofNat 32 (k.val + 1))) 32#32) 32#32
      = BitVec.ofNat 32 (p + far true k.val).val := by decide +kernel
theorem placeFore : ∀ (k : Fin 16) (p : Fin 32),
    Scalar.remsi (Scalar.addi (BitVec.ofNat 32 p.val) (BitVec.ofNat 32 (k.val + 1))) 32#32
      = BitVec.ofNat 32 (p + far false k.val).val := by decide +kernel

/-- The device a send into slot `k` names is the target. -/
theorem nearWord_eq (b : Bool) (k : ℕ) (c : Dev nD) : nearWord (ringWord c) (offWord b k) = devWord (tgt b k c) := by
  have h (j : Bool) : nearWord (ringWord c) (offWord b j.toNat) = devWord (near (off b j.toNat) c) := by
    unfold nearWord near devWord; rw [ringWord_eq, placeNear, lookup_perm]
  cases k with
  | zero => exact h false
  | succ k => cases b <;> exact h true
/-- The device whose experts the kernel takes slot `k`'s block for is where the block started. -/
theorem originWord_eq (b : Bool) (k : ℕ) (hk : k < 16) (c : Dev nD) : originWord (ringWord c) b k = devWord (origin b k c) := by
  cases b
  · show foreWord _ _ = _
    unfold foreWord devWord origin near; rw [ringWord_eq, placeFore ⟨k, hk⟩, lookup_perm]
  · show backWord _ _ = _
    unfold backWord devWord origin near; rw [ringWord_eq, placeBack ⟨k, hk⟩, lookup_perm]

theorem devWord_chk : ∀ n : Dev nD, k0_chk1 (devWord n) := by decide +kernel
theorem devWord_dev : ∀ n : Dev nD, k0_dev1 (devWord n) = n.val := by decide +kernel

end Cert.RingMoe

end
-- ==== Proof.Slots.lean ====
/-
The slots and the semaphores of the kernel as it is launched: which semaphore each slot has, which elements of a receive
buffer a slot is, and that the slots of a buffer make it up.
-/
module

public import proofs.«01_k».proof.Proof.Ring
public import proofs.«01_k».proof.Proof.Gen.KernelIdeal.Launch
public import Idealize.ShloMosaic.Lib.Pipeline.Kit
public import Idealize.ShloMosaic.Lib.Tactic

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The buffers the kernel is launched with. -/
abbrev A₀ : Args where
  x := Memref.whole cc0_stg0_0
  hx := Memref.isWhole_whole _
  rw := Memref.whole cc0_stg1_0
  hrw := Memref.isWhole_whole _
  ri := Memref.whole cc0_stg2_0
  hri := Memref.isWhole_whole _
  ew := Memref.whole cc0_stg3_0
  hew := Memref.isWhole_whole _
  out := Memref.whole cc0_stg4_0
  hout := Memref.isWhole_whole _
  own := Memref.whole cc0_scratch0
  hown := Memref.isWhole_whole _
  bR := Memref.whole cc0_scratch1
  hbR := Memref.isWhole_whole _
  bL := Memref.whole cc0_scratch2
  hbL := Memref.isWhole_whole _
  sR := cc0_scratch3
  rR := cc0_scratch4
  sL := cc0_scratch5
  rL := cc0_scratch6

abbrev slot (b : Bool) (k : ℕ) : Memref sig .tc .vmem S2x128x256 .bf16 := slotOf A₀ b k
abbrev ownM : Memref sig .tc .vmem S2x128x256 .bf16 := Memref.whole cc0_scratch0

/-! ## The semaphores -/

/-- A slot's semaphore: of its send (`false`) or of its receive (`true`). -/
def semNo : Bool → Bool → ℕ → ℕ
  | false, true, k => 5 + k % 16
  | true, true, k => 21 + k % 16
  | false, false, k => 37 + k % 15
  | true, false, k => 52 + k % 15
theorem semNo_lt (rx b : Bool) (k : ℕ) : semNo rx b k < 67 := by cases rx <;> cases b <;> simp only [semNo] <;> omega
def semAt (rx b : Bool) (k : ℕ) : DmaSem sig := ⟨semNo rx b k, semNo_lt rx b k⟩

theorem sendOf_eq (b : Bool) (k : ℕ) : sendOf A₀ b k = semAt false b k := by
  cases b
  · have h : k % 15 < 15 := Nat.mod_lt _ (by decide)
    have hl : 37 + k % 15 < 67 := semNo_lt false false k
    show ((cc0_scratch5.slice (Rect.unit (s := S15) ![k % 15] S1.size (inbS15 k))).squeeze S_ squeezes_S1_S_).sem = (⟨37 + k % 15, hl⟩ : DmaSem sig)
    generalize inbS15 k = hk
    generalize k % 15 = j at h hk hl
    exact (by decide : ∀ (j : Fin 15) (hk : ∀ a, (![j.val] : Fin 1 → Nat) a + S1.size a ≤ S15.size a) (hl : 37 + j.val < 67),
      ((cc0_scratch5.slice (Rect.unit (s := S15) ![j.val] S1.size hk)).squeeze S_ squeezes_S1_S_).sem = (⟨37 + j.val, hl⟩ : DmaSem sig)) ⟨j, h⟩ hk hl
  · have h : k % 16 < 16 := Nat.mod_lt _ (by decide)
    have hl : 5 + k % 16 < 67 := semNo_lt false true k
    show ((cc0_scratch3.slice (Rect.unit (s := S16) ![k % 16] S1.size (inbS16 k))).squeeze S_ squeezes_S1_S_).sem = (⟨5 + k % 16, hl⟩ : DmaSem sig)
    generalize inbS16 k = hk
    generalize k % 16 = j at h hk hl
    exact (by decide : ∀ (j : Fin 16) (hk : ∀ a, (![j.val] : Fin 1 → Nat) a + S1.size a ≤ S16.size a) (hl : 5 + j.val < 67),
      ((cc0_scratch3.slice (Rect.unit (s := S16) ![j.val] S1.size hk)).squeeze S_ squeezes_S1_S_).sem = (⟨5 + j.val, hl⟩ : DmaSem sig)) ⟨j, h⟩ hk hl
theorem recvOf_eq (b : Bool) (k : ℕ) : recvOf A₀ b k = semAt true b k := by
  cases b
  · have h : k % 15 < 15 := Nat.mod_lt _ (by decide)
    have hl : 52 + k % 15 < 67 := semNo_lt true false k
    show ((cc0_scratch6.slice (Rect.unit (s := S15) ![k % 15] S1.size (inbS15 k))).squeeze S_ squeezes_S1_S_).sem = (⟨52 + k % 15, hl⟩ : DmaSem sig)
    generalize inbS15 k = hk
    generalize k % 15 = j at h hk hl
    exact (by decide : ∀ (j : Fin 15) (hk : ∀ a, (![j.val] : Fin 1 → Nat) a + S1.size a ≤ S15.size a) (hl : 52 + j.val < 67),
      ((cc0_scratch6.slice (Rect.unit (s := S15) ![j.val] S1.size hk)).squeeze S_ squeezes_S1_S_).sem = (⟨52 + j.val, hl⟩ : DmaSem sig)) ⟨j, h⟩ hk hl
  · have h : k % 16 < 16 := Nat.mod_lt _ (by decide)
    have hl : 21 + k % 16 < 67 := semNo_lt true true k
    show ((cc0_scratch4.slice (Rect.unit (s := S16) ![k % 16] S1.size (inbS16 k))).squeeze S_ squeezes_S1_S_).sem = (⟨21 + k % 16, hl⟩ : DmaSem sig)
    generalize inbS16 k = hk
    generalize k % 16 = j at h hk hl
    exact (by decide : ∀ (j : Fin 16) (hk : ∀ a, (![j.val] : Fin 1 → Nat) a + S1.size a ≤ S16.size a) (hl : 21 + j.val < 67),
      ((cc0_scratch4.slice (Rect.unit (s := S16) ![j.val] S1.size hk)).squeeze S_ squeezes_S1_S_).sem = (⟨21 + j.val, hl⟩ : DmaSem sig)) ⟨j, h⟩ hk hl

/-- What a semaphore is for: the barrier, a slot's send or receive, or neither. -/
inductive Use where
  | bar
  | move (rx b : Bool) (k : ℕ)
  | other
deriving DecidableEq

def useOf : SemLoc sig → Use
  | .reg _ => .bar
  | .dma i => if i.val < 5 then .other else if i.val < 21 then .move false true (i.val - 5) else if i.val < 37 then .move true true (i.val - 21)
      else if i.val < 52 then .move false false (i.val - 37) else .move true false (i.val - 52)

theorem useOf_semAt (rx b : Bool) (k : ℕ) (hk : k < len b) : useOf (.dma (semAt rx b k)) = .move rx b k := by
  cases rx <;> cases b <;> simp only [len] at hk <;> simp only [useOf, semAt, semNo, Nat.mod_eq_of_lt hk]
  · rw [if_neg (by omega), if_neg (by omega), if_neg (by omega), if_pos (by omega), Nat.add_sub_cancel_left]
  · rw [if_neg (by omega), if_pos (by omega), Nat.add_sub_cancel_left]
  · rw [if_neg (by omega), if_neg (by omega), if_neg (by omega), if_neg (by omega), Nat.add_sub_cancel_left]
  · rw [if_neg (by omega), if_neg (by omega), if_pos (by omega), Nat.add_sub_cancel_left]

/-- A device's cells. -/
abbrev barCell (c : Dev nD) : GSem nD τ sig := ((c : Thread nD τ), .reg barS)
abbrev cell (rx b : Bool) (k : ℕ) (c : Dev nD) : GSem nD τ sig := ((c : Thread nD τ), .dma (semAt rx b k))

theorem cell_inj {rx rx' b b' : Bool} {k k' : ℕ} {c c' : Dev nD} (hk : k < len b) (hk' : k' < len b')
    (h : cell rx b k c = cell rx' b' k' c') : rx = rx' ∧ b = b' ∧ k = k' ∧ c = c' := by
  have h1 : c = c' := congrArg (fun g : GSem nD τ sig => g.1.1) h
  have h2 := congrArg (fun g : GSem nD τ sig => useOf g.2) h
  simp only [useOf_semAt rx b k hk, useOf_semAt rx' b' k' hk', Use.move.injEq] at h2
  exact ⟨h2.1, h2.2.1, h2.2.2, h1⟩
theorem cell_ne_bar (rx b : Bool) (k : ℕ) (c c' : Dev nD) : cell rx b k c ≠ barCell c' := fun h => by
  have := congrArg Prod.snd h; cases this

/-! ## The credit of a block -/

/-- What the transfer of one block credits. -/
abbrev N : ℕ := ownM.view.dmaCredit
theorem N_pos : 0 < N := View.dmaCredit_pos _ (by decide)
theorem credit_slot (b : Bool) (k : ℕ) : (slot b k).view.dmaCredit = N := by cases b <;> rfl
theorem credit_src (b : Bool) (k : ℕ) : (srcOf A₀ b k).view.dmaCredit = N := by
  unfold srcOf; split
  · rfl
  · exact credit_slot b _

/-! ## The elements of a slot -/

theorem mem_slotR (k : ℕ) (i : S16x2x128x256.Idx) : i ∈ ((slot true k).view.set : Finset S16x2x128x256.Idx) ↔ (i 0).val = k % 16 := by
  have e : ((slot true k).view.set : Finset S16x2x128x256.Idx) = (rect16 k).set :=
    (View.set_reshape _ _).trans (View.set_slice_whole cc0_scratch1 (rect16 k))
  refine (Iff.of_eq (congrArg (fun s : Finset S16x2x128x256.Idx => i ∈ s) e)).trans (Rect.mem_set_unit.trans ?_)
  have h1 : (i 1).val < 2 := (i 1).isLt
  have h2 : (i 2).val < 128 := (i 2).isLt
  have h3 : (i 3).val < 256 := (i 3).isLt
  constructor
  · intro h
    obtain ⟨h0, h0'⟩ := h 0
    simp only [Matrix.cons_val_zero, S1x2x128x256] at h0 h0'
    omega
  · intro h a
    match a with
    | ⟨0, _⟩ => show k % 16 ≤ (i 0).val ∧ (i 0).val < k % 16 + 1; omega
    | ⟨1, _⟩ => show 0 ≤ (i 1).val ∧ (i 1).val < 0 + 2; omega
    | ⟨2, _⟩ => show 0 ≤ (i 2).val ∧ (i 2).val < 0 + 128; omega
    | ⟨3, _⟩ => show 0 ≤ (i 3).val ∧ (i 3).val < 0 + 256; omega
theorem mem_slotL (k : ℕ) (i : S15x2x128x256.Idx) : i ∈ ((slot false k).view.set : Finset S15x2x128x256.Idx) ↔ (i 0).val = k % 15 := by
  have e : ((slot false k).view.set : Finset S15x2x128x256.Idx) = (rect15 k).set :=
    (View.set_reshape _ _).trans (View.set_slice_whole cc0_scratch2 (rect15 k))
  refine (Iff.of_eq (congrArg (fun s : Finset S15x2x128x256.Idx => i ∈ s) e)).trans (Rect.mem_set_unit.trans ?_)
  have h1 : (i 1).val < 2 := (i 1).isLt
  have h2 : (i 2).val < 128 := (i 2).isLt
  have h3 : (i 3).val < 256 := (i 3).isLt
  constructor
  · intro h
    obtain ⟨h0, h0'⟩ := h 0
    simp only [Matrix.cons_val_zero, S1x2x128x256] at h0 h0'
    omega
  · intro h a
    match a with
    | ⟨0, _⟩ => show k % 15 ≤ (i 0).val ∧ (i 0).val < k % 15 + 1; omega
    | ⟨1, _⟩ => show 0 ≤ (i 1).val ∧ (i 1).val < 0 + 2; omega
    | ⟨2, _⟩ => show 0 ≤ (i 2).val ∧ (i 2).val < 0 + 128; omega
    | ⟨3, _⟩ => show 0 ≤ (i 3).val ∧ (i 3).val < 0 + 256; omega

end Cert.RingMoe

end
-- ==== Proof.Sched.lean ====
/-
What the devices hand one another. Each semaphore cell is used once: a device's barrier cell takes one unit from each of
its four signallers, a slot's send cell and receive cell one block's credit. What comes with each unit is written here:
 - with a barrier signal, the slots of the signaller's buffers that the signalled device will fill;
 - with a receive, the slot, holding the block that was sent;
 - with a send, the share of the source the transfer read.
-/
module

public import proofs.«01_k».proof.Proof.Slots
public import Idealize.SL.BI.BigOpNat

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of a cell are named by a direction and by which of its slots (slot 0, or the later ones). -/
abbrev Duty : Type := Bool × Bool
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The values the devices start from -/

/-- A device's arguments as its kernel's body finds them. -/
def xAt (c : Dev nD) : Vec F S256x128 .f32 := (win0_0.blk (0 : Fin 1)).view.read (Elt F) (m ((c : Thread nD τ).loc main_arg0))
def rwAt (c : Dev nD) : Vec F S128x64 .f32 := (win0_1.blk (0 : Fin 1)).view.read (Elt F) (m ((c : Thread nD τ).loc main_arg1))
def riAt (c : Dev nD) : Vec F S256x2 .i32 := (win0_2.blk (0 : Fin 1)).view.read (Elt F) (m ((c : Thread nD τ).loc main_arg2))
def ewAt (c : Dev nD) : Vec F S2x128x256 .f32 := (win0_3.blk (0 : Fin 1)).view.read (Elt F) (m ((c : Thread nD τ).loc main_arg3))

/-- The block a device sends: its two experts narrowed. -/
def blk (c : Dev nD) : Vec F S2x128x256 .bf16 := narrow (ewAt m c)

/-! ## What is held of the buffers -/

def slotPts (b : Bool) (k : ℕ) (c : Dev nD) (q : PosShare TreeShare) (f : Buf (Elt F) ((slot b k).view.loc (c : Thread nD τ))) : sProp 𝕄 :=
  (slot b k).view.loc (c : Thread nD τ) ↦[(slot b k).view.set]{q} f
/-- A slot with any contents; -/
def anySlot (b : Bool) (k : ℕ) (c : Dev nD) : sProp 𝕄 := iprop(∃ f, slotPts b k c fullShare f)
/-- a share of a slot that holds the block `w`. -/
def holds (b : Bool) (k : ℕ) (c : Dev nD) (q : PosShare TreeShare) (w : Vec F S2x128x256 .bf16) : sProp 𝕄 :=
  iprop(∃ f, ⌜(slot b k).view.read (Elt F) f = w⌝ ∗ slotPts b k c q f)
/-- A share of a device's own block. -/
def ownPts (c : Dev nD) (q : PosShare TreeShare) (f : Vec F S2x128x256 .bf16) : sProp 𝕄 :=
  ownM.view.loc (c : Thread nD τ) ↦[ownM.view.set]{q} (f : Buf (Elt F) ((c : Thread nD τ).loc cc0_scratch0))

/-- The shares of the own block: the four first sends', and what the device keeps. -/
abbrev rest1 : PosShare TreeShare := fullShare.right
abbrev rest2 : PosShare TreeShare := rest1.right
abbrev rest3 : PosShare TreeShare := rest2.right
abbrev rest4 : PosShare TreeShare := rest3.right
def ownShare : Bool → ℕ → PosShare TreeShare
  | true, 0 => fullShare.left
  | false, 0 => rest1.left
  | true, _ + 1 => rest2.left
  | false, _ + 1 => rest3.left

omit [FloatOps F] in
instance slotPts_storable (b k c q f) : BI.Storable (upEmb : UEmb _ 𝕄) (slotPts (F := F) b k c q f) := by unfold slotPts; infer_instance
omit [FloatOps F] in
instance anySlot_storable (b k c) : BI.Storable (upEmb : UEmb _ 𝕄) (anySlot (F := F) b k c) := by unfold anySlot; infer_instance
omit [FloatOps F] in
instance holds_storable (b k c q w) : BI.Storable (upEmb : UEmb _ 𝕄) (holds (F := F) b k c q w) := by unfold holds; infer_instance
omit [FloatOps F] in
instance ownPts_storable (c q f) : BI.Storable (upEmb : UEmb _ 𝕄) (ownPts (F := F) c q f) := by unfold ownPts; infer_instance

/-! ## The schedule -/

/-- With the signal from the device that `c` fills slots of, in direction `b`: those slots. -/
def barPay (c : Dev nD) : Duty → sProp 𝕄
  | (b, false) => anySlot b 0 (tgt b 0 c)
  | (b, true) => bigSep (Finset.Ico 1 (len b)) fun k => anySlot b k (tgt b k c)
def recvPay (b : Bool) (k : ℕ) (c : Dev nD) : sProp 𝕄 := holds b k c fullShare (blk m (origin b k c))
def sendPay (b : Bool) (k : ℕ) (c : Dev nD) : sProp 𝕄 :=
  if k < 2 then ownPts c (ownShare b k) (blk m c) else holds b (k - 2) c fullShare.left (blk m (origin b (k - 2) c))

def payOf (c : Dev nD) (d : Duty) : Use → sProp 𝕄
  | .bar => barPay c d
  | .move true b k => recvPay m b k c
  | .move false b k => sendPay m b k c
  | .other => iprop(emp)

def dutiesOf : Use → Finset Duty
  | .bar => Finset.univ
  | .move _ _ _ => {(false, false)}
  | .other => ∅

def amountOf : Use → ℕ
  | .bar => 1
  | _ => N

def sched : Rounds.Schedule (GSem nD τ sig) Duty 𝕄 where
  duties g r := if r = 0 ∧ g.1.2 = .tc then dutiesOf (useOf g.2) else ∅
  unitless _ := False
  amount g _ _ := amountOf (useOf g.2)
  payload g _ d := payOf m g.1.1 d (useOf g.2)
  amount_pos g _ _ _ := by
    unfold amountOf; split
    · exact Nat.one_pos
    · exact N_pos

instance sched_storable (g : GSem nD τ sig) (r : ℕ) (d : Duty) : BI.Storable (upEmb : UEmb _ 𝕄) ((sched m).payload g r d) := by
  show BI.Storable upEmb (payOf m g.1.1 d (useOf g.2))
  unfold payOf
  split
  · obtain ⟨b, _ | _⟩ := d <;> unfold barPay <;> infer_instance
  · unfold recvPay; infer_instance
  · unfold sendPay; split <;> infer_instance
  · infer_instance

section Facts
variable (c : Dev nD)

theorem duties_bar : (sched m).duties (barCell c) 0 = Finset.univ := by dsimp only [sched]; exact if_pos ⟨rfl, rfl⟩
theorem duties_cell (rx b : Bool) (k : ℕ) (hk : k < len b) : (sched m).duties (cell rx b k c) 0 = {(false, false)} := by
  dsimp only [sched]; rw [if_pos ⟨rfl, rfl⟩, useOf_semAt rx b k hk]; rfl
theorem duties_later (g : GSem nD τ sig) : ∀ r, 1 ≤ r → (sched m).duties g r = ∅ :=
  fun r hr => by dsimp only [sched]; exact if_neg fun h => by omega

theorem amount_bar (d : Duty) : (sched m).amount (barCell c) 0 d = 1 := rfl
theorem amount_cell (rx b : Bool) (k : ℕ) (hk : k < len b) (d : Duty) : (sched m).amount (cell rx b k c) 0 d = N := by
  show amountOf (useOf (.dma (semAt rx b k))) = N
  rw [useOf_semAt rx b k hk]; rfl

theorem expect_bar : (sched m).expect (barCell c) 0 = 4 := by
  unfold Schedule.expect Schedule.amountOf
  rw [duties_bar, Finset.sum_congr rfl fun d _ => amount_bar m c d]; rfl
theorem expect_cell (rx b : Bool) (k : ℕ) (hk : k < len b) : (sched m).expect (cell rx b k c) 0 = N := by
  unfold Schedule.expect Schedule.amountOf; rw [duties_cell m c rx b k hk, Finset.sum_singleton, amount_cell m c rx b k hk]

theorem payload_bar (d : Duty) : (sched m).payload (barCell c) 0 d = barPay c d := rfl
theorem payload_send (b : Bool) (k : ℕ) (hk : k < len b) (d : Duty) : (sched m).payload (cell false b k c) 0 d = sendPay m b k c := by
  show payOf m c d (useOf (.dma (semAt false b k))) = _
  rw [useOf_semAt false b k hk]; rfl
theorem payload_recv (b : Bool) (k : ℕ) (hk : k < len b) (d : Duty) : (sched m).payload (cell true b k c) 0 d = recvPay m b k c := by
  show payOf m c d (useOf (.dma (semAt true b k))) = _
  rw [useOf_semAt true b k hk]; rfl

theorem rest_send (b : Bool) (k : ℕ) (hk : k < len b) :
    bigSep ((sched m).duties (cell false b k c) 0 \ ∅) (fun d => (sched m).payload (cell false b k c) 0 d) = sendPay m b k c := by
  rw [Finset.sdiff_empty, duties_cell m c false b k hk, bigSep_singleton, payload_send m c b k hk]
theorem rest_recv (b : Bool) (k : ℕ) (hk : k < len b) :
    bigSep ((sched m).duties (cell true b k c) 0 \ ∅) (fun d => (sched m).payload (cell true b k c) 0 d) = recvPay m b k c := by
  rw [Finset.sdiff_empty, duties_cell m c true b k hk, bigSep_singleton, payload_recv m c b k hk]

omit [FloatOps F] in
/-- The slots of `tgt` devices in direction `b`, from the first on. -/
theorem permits_join (b : Bool) :
    iprop(barPay (F := F) c (b, false) ∗ barPay c (b, true)) ⊢ (bigSep (Finset.Ico 0 (len b)) fun k => anySlot b k (tgt b k c) : sProp 𝕄) := by
  rw [bigSep_Ico_succ_bot (by cases b <;> decide : 0 < len b)]; exact Entails.refl _
theorem rest_bar :
    bigSep ((sched m).duties (barCell c) 0 \ ∅) (fun d => (sched m).payload (barCell c) 0 d)
      ⊢ iprop((bigSep (Finset.Ico 0 (len true)) fun k => anySlot true k (tgt true k c)) ∗ (bigSep (Finset.Ico 0 (len false)) fun k => anySlot false k (tgt false k c)) : sProp 𝕄) := by
  rw [Finset.sdiff_empty, duties_bar, bigSep_univ_eq_bigSepL [(true, false), (true, true), (false, false), (false, true)] (by decide) (by decide)]
  simp only [bigSepL_cons_cons, bigSepL_singleton, payload_bar]
  show iprop(barPay c (true, false) ∗ barPay c (true, true) ∗ barPay c (false, false) ∗ barPay c (false, true)) ⊢ _
  iintro ⟨H1, H2, H3, H4⟩
  isplitl [H1 H2]
  · iapply (permits_join c true); isplitl [H1] <;> iassumption
  · iapply (permits_join c false); isplitl [H3] <;> iassumption

end Facts

/-! ## What a device owes, and in what order the cells may be waited on -/

/-- The receives, in direction `b`, of the devices `c` fills slots of, from slot `i` on. -/
def owedDir (b : Bool) (i : ℕ) (c : Dev nD) : CellTallies nD τ sig Unit :=
  ∑ k ∈ Finset.Ico i (len b), tallyAt (cell true b k (tgt b k c)) () N
def owedMoves (c : Dev nD) : CellTallies nD τ sig Unit := owedDir true 0 c + owedDir false 0 c
def O₃ (c : Dev nD) : CellTallies nD τ sig Unit := owedMoves c + tallyAt (barCell (near 30 c)) () 1
def O₂ (c : Dev nD) : CellTallies nD τ sig Unit := O₃ c + tallyAt (barCell (near 2 c)) () 1
def O₁ (c : Dev nD) : CellTallies nD τ sig Unit := O₂ c + tallyAt (barCell (near 31 c)) () 1
/-- At launch: those and one unit to each of four neighbours' barrier cells. -/
def O₀ (c : Dev nD) : CellTallies nD τ sig Unit := O₁ c + tallyAt (barCell (near 1 c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Sends and staging first, then the barrier, then the receives in the order of the slots. -/
def level : Use → ℕ
  | .bar => 1
  | .move true _ k => k + 2
  | _ => 0
def lv (g : GSem nD τ sig) (_ : Unit) : ℕ := level (useOf g.2)

theorem lv_bar (c : Dev nD) : lv (barCell c) () = 1 := rfl
theorem lv_recv (b : Bool) (k : ℕ) (hk : k < len b) (c : Dev nD) : lv (cell true b k c) () = k + 2 := by
  show level (useOf (.dma (semAt true b k))) = _; rw [useOf_semAt true b k hk]; rfl
theorem lv_send (b : Bool) (k : ℕ) (hk : k < len b) (c : Dev nD) : lv (cell false b k c) () = 0 := by
  show level (useOf (.dma (semAt false b k))) = _; rw [useOf_semAt false b k hk]; rfl

/-- Every debt of `O` is of level at least `n`, on a TensorCore's cell. -/
def Above (n : ℕ) (O : CellTallies nD τ sig Unit) : Prop := ∀ g u, 0 < O g u → u ∈ L g ∧ n ≤ lv g u

theorem above_zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
theorem Above.tally {n : ℕ} {c : Dev nD} {sm : SemLoc sig} {a : ℕ} (h : n ≤ lv ((c : Thread nD τ), sm) ()) : Above n (tallyAt ((c : Thread nD τ), sm) () a) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)
theorem Above.sum {n : ℕ} {S : Finset ℕ} {f : ℕ → CellTallies nD τ sig Unit} (h : ∀ k ∈ S, Above n (f k)) : Above n (∑ k ∈ S, f k) := by
  classical
  induction S using Finset.induction_on with
  | empty => rw [Finset.sum_empty]; exact above_zero n
  | insert k S hk ih =>
    rw [Finset.sum_insert hk]
    exact (h k (Finset.mem_insert_self _ _)).add (ih fun k' hk' => h k' (Finset.mem_insert_of_mem hk'))
theorem Above.mono {n n' : ℕ} {O : CellTallies nD τ sig Unit} (h : Above n O) (hn : n' ≤ n) : Above n' O := fun g u hg => ⟨(h g u hg).1, hn.trans (h g u hg).2⟩

theorem above_dir (b : Bool) (i : ℕ) (c : Dev nD) : Above (i + 2) (owedDir b i c) :=
  Above.sum fun k hk => Above.tally (by rw [Finset.mem_Ico] at hk; rw [show lv _ () = _ from lv_recv b k hk.2 (tgt b k c)]; omega)
theorem above_moves (c : Dev nD) : Above 2 (owedMoves c) := (above_dir true 0 c).add (above_dir false 0 c)
theorem above_O₀ (c : Dev nD) : Above 1 (O₀ c) :=
  (((((above_moves c).mono (by decide)).add (.tally (Nat.le_of_eq (lv_bar _).symm))).add (.tally (Nat.le_of_eq (lv_bar _).symm))).add
    (.tally (Nat.le_of_eq (lv_bar _).symm))).add (.tally (Nat.le_of_eq (lv_bar _).symm))

omit [FloatOps F] in
/-- A wait on a cell below every debt. -/
theorem mayWait (c : Dev nD) (sm : SemLoc sig) (O : CellTallies nD τ sig Unit) (n : ℕ) (hn : lv ((c : Thread nD τ), sm) () ≤ n) (hO : Above (n + 1) O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-- The debts in a direction, with the first of them set apart. -/
theorem owedDir_step (b : Bool) (i : ℕ) (hi : i < len b) (c : Dev nD) :
    owedDir b i c = owedDir b (i + 1) c + tallyAt (cell true b i (tgt b i c)) () N := by
  unfold owedDir
  rw [show Finset.Ico i (len b) = insert i (Finset.Ico (i + 1) (len b)) by ext x; simp only [Finset.mem_Ico, Finset.mem_insert]; omega,
    Finset.sum_insert (by rw [Finset.mem_Ico]; omega), add_comm]
theorem owedDir_end (b : Bool) (i : ℕ) (hi : len b ≤ i) (c : Dev nD) : owedDir b i c = 0 := by
  unfold owedDir; rw [Finset.Ico_eq_empty (by omega), Finset.sum_empty]

end Cert.RingMoe

end
-- ==== Proof.Steps.lean ====
/-
The steps of the kernel under the schedule: one rule for each piece of the text — naming a device, sending a block into
a slot, waiting for a slot's block, waiting for a send, adding a slot's block to the result.
-/
module

public import proofs.«01_k».proof.Proof.Sched

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's kernel run to a postcondition. -/
abbrev run (c : Dev nD) (p : Pr F) (Q : PUnit.{1} → sProp 𝕄) : sProp 𝕄 :=
  wp frame (wpE (defs₀ (F := F)) 𝒱₀ (c : Thread nD τ) none) Set.univ p Q

/-! ## What every device knows of every cell -/

/-- The kernel's cells: the 62 semaphores of the slots, then the barrier's. -/
abbrev CellIx : Type := Fin 62 ⊕ Unit
def semOf : CellIx → SemLoc sig
  | .inl j => .dma ⟨5 + j.val, by show 5 + j.val < 67; omega⟩
  | .inr _ => .reg barS
abbrev kcell (cj : Dev nD × CellIx) : GSem nD τ sig := ((cj.1 : Thread nD τ), semOf cj.2)

def semCode (s : SemLoc sig) : ℕ := match s with | .dma i => i.val | .reg _ => 67
theorem semOf_inj : Function.Injective semOf := by
  rintro (j | _) (j' | _) h
  · have e : 5 + j.val = 5 + j'.val := congrArg semCode h
    exact congrArg Sum.inl (Fin.ext (by omega))
  · cases h
  · cases h
  · rfl
theorem kcell_injective : Function.Injective (kcell : Dev nD × CellIx → GSem nD τ sig) := by
  rintro ⟨c, j⟩ ⟨c', j'⟩ h
  have h1 : c = c' := congrArg (fun g : GSem nD τ sig => g.1.1) h
  have h2 : j = j' := semOf_inj (congrArg Prod.snd h)
  rw [h1, h2]
def ringCells : Finset (GSem nD τ sig) := Finset.univ.map ⟨kcell, kcell_injective⟩

/-- A slot's semaphore among the 62. -/
def cellNo (rx b : Bool) (k : ℕ) : Fin 62 := ⟨semNo rx b k - 5, by have := semNo_lt rx b k; omega⟩
theorem semOf_cellNo (rx b : Bool) (k : ℕ) : semOf (.inl (cellNo rx b k)) = .dma (semAt rx b k) := by
  have h5 : 5 ≤ semNo rx b k := by cases rx <;> cases b <;> simp only [semNo] <;> omega
  unfold semOf cellNo semAt
  simp only [show 5 + (semNo rx b k - 5) = semNo rx b k by omega]
theorem kcell_cellNo (rx b : Bool) (k : ℕ) (c : Dev nD) : kcell (c, .inl (cellNo rx b k)) = cell rx b k c := by
  unfold kcell; rw [semOf_cellNo]
theorem cell_mem (rx b : Bool) (k : ℕ) (c : Dev nD) : cell rx b k c ∈ ringCells :=
  Finset.mem_map.mpr ⟨(c, .inl (cellNo rx b k)), Finset.mem_univ _, kcell_cellNo rx b k c⟩
theorem bar_mem (c : Dev nD) : barCell c ∈ ringCells := Finset.mem_map.mpr ⟨(c, .inr ()), Finset.mem_univ _, rfl⟩

/-- The cells' invariants under the names `K`, and that each cell's round 0 is open. -/
def records (K : GSem nD τ sig → ℕ) : sProp 𝕄 :=
  bigSep ringCells fun g => iprop(cellInv ER (sched m) (K g) g ∗ reached ER g 0)
instance records_persistent (K : GSem nD τ sig → ℕ) : BI.Persistent (records m K) := by unfold records; infer_instance
/-- With the order of the cells. -/
def known (K : GSem nD τ sig → ℕ) : sProp 𝕄 := iprop(records m K ∗ levAts L lv)
instance known_persistent (K : GSem nD τ sig → ℕ) : BI.Persistent (known m K) := by unfold known; infer_instance

section Known
variable (K : GSem nD τ sig → ℕ)

theorem records_at {g : GSem nD τ sig} (hg : g ∈ ringCells) : records m K ⊢ iprop(cellInv ER (sched m) (K g) g ∗ reached ER g 0) := by
  unfold records
  exact bigSep_elim (Φ := fun g => iprop(cellInv ER (sched m) (K g) g ∗ reached ER g 0)) hg
theorem known_inv {g : GSem nD τ sig} (hg : g ∈ ringCells) : known m K ⊢ cellInv ER (sched m) (K g) g := by
  unfold known
  iintro ⟨H, -⟩
  ihave H' := (records_at m K hg) $$ H
  icases H' with ⟨H1, -⟩
  iexact H1
theorem known_reached {g : GSem nD τ sig} (hg : g ∈ ringCells) : known m K ⊢ reached ER g 0 := by
  unfold known
  iintro ⟨H, -⟩
  ihave H' := (records_at m K hg) $$ H
  icases H' with ⟨-, H1⟩
  iexact H1
theorem known_mayWait (c : Dev nD) (sm : SemLoc sig) (O : CellTallies nD τ sig Unit) (n : ℕ) (hn : lv ((c : Thread nD τ), sm) () ≤ n) (hO : Above (n + 1) O) :
    known m K ⊢ MayWait (c : Thread nD τ) sm () O := by
  unfold known
  iintro ⟨-, H⟩
  iapply (mayWait c sm O n hn hO); iexact H

/-- What a device still owes, whatever it has waited for. -/
def owesAny (c : Dev nD) (O : CellTallies nD τ sig Unit) : sProp 𝕄 := iprop(∃ W, owes (c : Thread nD τ) O W)

/-! ## The rules -/

variable (c : Dev nD)

omit [FloatOps F] in
theorem devWord_toDev (n : Dev nD) (h : k0_chk1 (devWord n)) : (⟨k0_dev1 (devWord n), k0_dev1_lt _ h⟩ : Dev nD) = n := Fin.ext (devWord_dev n)

theorem run_toDev (b : Bool) (k : ℕ) (f : Dev nD → Pr F) (Q : PUnit → sProp 𝕄) :
    run c (f (tgt b k c)) Q ⊢ run c (toDev (nearWord (ringWord c) (offWord b k)) f) Q := by
  rw [nearWord_eq]
  have h := devWord_chk (tgt b k c)
  refine BIBase.Entails.trans ?_ (wp_assume 𝒱₀ (c : Thread nD τ) none Set.univ h)
  rw [devWord_toDev _ h]

/-- Sending `src`, whose share `q` comes back with the send's completion, into the target's slot. -/
theorem run_send (b : Bool) (k : ℕ) (hk : k < len b) (src : Memref sig .tc .vmem S2x128x256 .bf16) (hsrc : src.view.WordExact)
    (P : Pr F) (Q : PUnit → sProp 𝕄) (q : PosShare TreeShare) (fs : Buf (Elt F) (src.view.loc (c : Thread nD τ)))
    (hpay : (src.view.loc (c : Thread nD τ) ↦[src.view.set]{q} fs : sProp 𝕄) ⊢ sendPay m b k c)
    (hread : src.view.read (Elt F) fs = blk m (origin b k (tgt b k c))) (O : CellTallies nD τ sig Unit) :
    iprop(known m K ∗ (src.view.loc (c : Thread nD τ) ↦[src.view.set]{q} fs) ∗ anySlot b k (tgt b k c)
        ∗ owesAny c (O + tallyAt (cell true b k (tgt b k c)) () N)
        ∗ dutyTok ER (cell false b k c) 0 (false, false) ∗ dutyTok ER (cell true b k (tgt b k c)) 0 (false, false))
      ⊢ iprop(((cred (tallyAt (cell false b k c) () N) ∗ owesAny c O) -∗ run c P Q) -∗ run c (sendTo A₀ b k src hsrc (tgt b k c) P) Q) := by
  unfold anySlot owesAny sendTo
  rw [sendOf_eq, recvOf_eq]
  unfold sendVia
  iintro ⟨#HK, Hsrc, ⟨%fd, Hdst⟩, ⟨%W, HO⟩, Ht1, Ht2⟩ Hk
  unfold slotPts
  iapply (Rounds.wp_send_pointsTo 𝒱₀ ER (sched m) (c : Thread nD τ) none (c' := (tgt b k c : Thread nD τ)) (src := src) (dst := slot b k)
      (κ₁ := K (cell false b k c)) (κ₂ := K (cell true b k (tgt b k c)))
      (r₁ := 0) (r₂ := 0) (d₁ := (false, false)) (d₂ := (false, false)) (fd := fd)
      (by rw [duties_cell m c false b k hk]; exact Finset.mem_singleton_self _) (by rw [duties_cell m (tgt b k c) true b k hk]; exact Finset.mem_singleton_self _)
      () () N (by exact credit_slot b k) (amount_cell m c false b k hk _) (amount_cell m (tgt b k c) true b k hk _) O rfl (W := W)
      (by rw [payload_send m c b k hk]; exact hpay)
      (by
        rw [payload_recv m (tgt b k c) b k hk]; unfold recvPay holds slotPts
        iintro H
        iexists ((slot b k).view.write (Elt F) fd (src.view.read (Elt F) fs) Finset.univ)
        isplitr
        · ipureintro; exact (View.read_write_univ _ _).trans hread
        · iexact H)) $$ [Hsrc Hdst HO Ht1 Ht2]
  · isplitr; · iapply (known_inv m K (cell_mem false b k c)); iexact HK
    isplitr; · iapply (known_inv m K (cell_mem true b k (tgt b k c))); iexact HK
    isplitl [Hsrc]; · iexact Hsrc
    isplitl [Hdst]; · iexact Hdst
    isplitl [HO]; · iexact HO
    isplitl [Ht1]; · iexact Ht1
    isplitr; · iapply (known_reached m K (cell_mem false b k c)); iexact HK
    isplitl [Ht2]; · iexact Ht2
    iapply (known_reached m K (cell_mem true b k (tgt b k c))); iexact HK
  iintro ⟨Hc, HO⟩
  iapply Hk
  isplitl [Hc]; · iexact Hc
  iexists W; iexact HO

/-- Waiting for a slot's block. -/
theorem run_waitRecv (b : Bool) (k : ℕ) (hk : k < len b) (P : Pr F) (Q : PUnit → sProp 𝕄) (O : CellTallies nD τ sig Unit) (hO : Above (k + 3) O) :
    iprop(known m K ∗ cred (tallyAt (cell true b k c) () N) ∗ owesAny c O ∗ atPos ER (cell true b k c) 0 ∅ 0)
      ⊢ iprop(((owesAny c O ∗ semVal (cell true b k c) 0 ∗ recvPay m b k c) -∗ run c P Q) -∗ run c (waitRecv A₀ b k P) Q) := by
  unfold owesAny waitRecv
  rw [recvOf_eq]
  iintro ⟨#HK, Hc, ⟨%W, HO⟩, Hat⟩ Hk
  iapply (Rounds.wp_wait_rest_token 𝒱₀ ER (sched m) (c : Thread nD τ) none (κ := K (cell true b k c))
      (wpE_waitDma2_eq 𝒱₀ (c : Thread nD τ) none Set.univ) (Set.mem_univ _) () (O := O) (W := W) (R := 0) (m := 0) (T := ∅)
      (by rw [Nat.zero_add, expect_cell m c true b k hk])) $$ [Hc HO Hat]
  · isplitr; · iapply (known_inv m K (cell_mem true b k c)); iexact HK
    isplitl [Hc]; · rw [credit_slot]; iexact Hc
    isplitl [HO]; · iexact HO
    isplitr; · iapply (known_mayWait m K c _ O (k + 2) (Nat.le_of_eq (lv_recv b k hk c)) hO); iexact HK
    iexact Hat
  iintro ⟨HO, Hat, -, Hpay⟩
  ihave Hp := (Entails.of_eq (rest_recv m c b k hk)) $$ Hpay
  imod (Rounds.cell_close ER (sched m) (Set.mem_univ (K (cell true b k c))) (fun h => h) (R := 0 + 1) (duties_later m (cell true b k c))) $$ [Hat] with Hz
  · isplitr; · iapply (known_inv m K (cell_mem true b k c)); iexact HK
    iexact Hat
  iapply Hk
  isplitl [HO]; · iexists _; iexact HO
  isplitl [Hz] <;> iassumption

/-- Waiting for a slot's send, every receive of others being paid. -/
theorem run_waitSend (b : Bool) (k : ℕ) (hk : k < len b) (P : Pr F) (Q : PUnit → sProp 𝕄) :
    iprop(known m K ∗ cred (tallyAt (cell false b k c) () N) ∗ owesAny c 0 ∗ atPos ER (cell false b k c) 0 ∅ 0)
      ⊢ iprop(((owesAny c 0 ∗ semVal (cell false b k c) 0 ∗ sendPay m b k c) -∗ run c P Q) -∗ run c (waitSend A₀ b k (srcOf A₀ b k) (srcOf_words A₀ b k) P) Q) := by
  unfold owesAny waitSend
  rw [sendOf_eq]
  iintro ⟨#HK, Hc, ⟨%W, HO⟩, Hat⟩ Hk
  iapply (Rounds.wp_wait_rest_token 𝒱₀ ER (sched m) (c : Thread nD τ) none (κ := K (cell false b k c))
      (wpE_waitDma2_eq 𝒱₀ (c : Thread nD τ) none Set.univ) (Set.mem_univ _) () (O := 0) (W := W) (R := 0) (m := 0) (T := ∅)
      (by rw [Nat.zero_add, expect_cell m c false b k hk])) $$ [Hc HO Hat]
  · isplitr; · iapply (known_inv m K (cell_mem false b k c)); iexact HK
    isplitl [Hc]; · rw [credit_src]; iexact Hc
    isplitl [HO]; · iexact HO
    isplitr; · rw [MayWait_zero]; iempintro
    iexact Hat
  iintro ⟨HO, Hat, -, Hpay⟩
  ihave Hp := (Entails.of_eq (rest_send m c b k hk)) $$ Hpay
  imod (Rounds.cell_close ER (sched m) (Set.mem_univ (K (cell false b k c))) (fun h => h) (R := 0 + 1) (duties_later m (cell false b k c))) $$ [Hat] with Hz
  · isplitr; · iapply (known_inv m K (cell_mem false b k c)); iexact HK
    iexact Hat
  iapply Hk
  isplitl [HO]; · iexists _; iexact HO
  isplitl [Hz] <;> iassumption

/-- One signal. -/
theorem run_signal (n : Dev nD) (d : Duty) (P : Pr F) (Q : PUnit → sProp 𝕄) (O : CellTallies nD τ sig Unit) :
    iprop(known m K ∗ owesAny c (O + tallyAt (barCell n) () 1) ∗ dutyTok ER (barCell n) 0 d ∗ barPay n d)
      ⊢ iprop((owesAny c O -∗ run c P Q) -∗ run c (signal n P) Q) := by
  unfold owesAny signal
  iintro ⟨#HK, ⟨%W, HO⟩, Ht, Hp⟩ Hk
  iapply (Rounds.wp_signal 𝒱₀ ER (sched m) (c : Thread nD τ) none (dst := (n : Thread nD τ)) (κ := K (barCell n))
      (d := d) (by rw [duties_bar]; exact Finset.mem_univ _) ((amount_bar m n d).trans (by decide)) () O rfl) $$ [HO Ht Hp]
  · isplitr; · iapply (known_inv m K (bar_mem n)); iexact HK
    isplitl [HO]; · iexact HO
    isplitl [Ht]; · iexact Ht
    isplitl [Hp]; · rw [payload_bar]; iexact Hp
    iapply (known_reached m K (bar_mem n)); iexact HK
  iintro HO
  iapply Hk
  iexists W; iexact HO

/-- The wait for the four signals: the slots this device will fill. -/
theorem run_waitBar (P : Pr F) (Q : PUnit → sProp 𝕄) (O : CellTallies nD τ sig Unit) (hO : Above 2 O) :
    iprop(known m K ∗ cred (tallyAt (barCell c) () 4) ∗ owesAny c O ∗ atPos ER (barCell c) 0 ∅ 0)
      ⊢ iprop(((owesAny c O ∗ semVal (barCell c) 0 ∗ (bigSep (Finset.Ico 0 (len true)) fun k => anySlot true k (tgt true k c))
            ∗ (bigSep (Finset.Ico 0 (len false)) fun k => anySlot false k (tgt false k c))) -∗ run c P Q)
          -∗ run c (.op (.semWait barS (4#32 : BitVec 32).toInt) fun _ => P) Q) := by
  unfold owesAny
  iintro ⟨#HK, Hc, ⟨%W, HO⟩, Hat⟩ Hk
  iapply (Rounds.wp_wait_rest_token 𝒱₀ ER (sched m) (c : Thread nD τ) none (κ := K (barCell c))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (known_inv m K (bar_mem c)); iexact HK
    isplitl [Hc]; · iexact Hc
    isplitl [HO]; · iexact HO
    isplitr; · iapply (known_mayWait m K c _ O 1 (Nat.le_of_eq (lv_bar c)) hO); iexact HK
    iexact Hat
  iintro ⟨HO, Hat, -, Hpay⟩
  ihave Hp := (rest_bar m c) $$ Hpay
  icases Hp with ⟨H1, H2⟩
  imod (Rounds.cell_close ER (sched m) (Set.mem_univ (K (barCell c))) (fun h => h) (R := 0 + 1) (duties_later m (barCell c))) $$ [Hat] with Hz
  · isplitr; · iapply (known_inv m K (bar_mem c)); iexact HK
    iexact Hat
  iapply Hk
  isplitl [HO]; · iexists _; iexact HO
  isplitl [Hz]; · iexact Hz
  isplitl [H1] <;> iassumption

end Known

end Cert.RingMoe

end
-- ==== Proof.Buffers.lean ====
/-
The two receive buffers as wholes and slot by slot, and the 62 semaphores of a device listed by what they are for.
-/
module

public import proofs.«01_k».proof.Proof.Steps
public import Idealize.SL.ProofMode.BigOp

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Cut
variable (ℓ : Loc nD τ sig) (S : ℕ → Finset (Idx ℓ)) (n : ℕ) (hd : ∀ k ∈ Finset.Ico 0 n, ∀ k' ∈ Finset.Ico 0 n, k ≠ k' → Disjoint (S k) (S k'))
  (hc : (Finset.Ico 0 n).biUnion S = Finset.univ) (f₀ : Buf (Elt F) ℓ)
include hd hc

omit [FloatOps F] in
/-- A buffer cut into parts, -/
theorem cut : iprop(∃ f : Buf (Elt F) ℓ, ℓ ↦{fullShare} f) ⊢ (bigSep (Finset.Ico 0 n) fun k => iprop(∃ f : Buf (Elt F) ℓ, ℓ ↦[S k]{fullShare} f) : sProp 𝕄) := by
  iintro ⟨%f, H⟩
  ihave H' := (show (ℓ ↦{fullShare} f : sProp 𝕄) ⊢ bigSep (Finset.Ico 0 n) fun k => ℓ ↦[S k]{fullShare} f from
    Entails.of_eq (by rw [← pointsTo_biUnion (Finset.Ico 0 n) S hd, hc])) $$ H
  iapply (show (bigSep (Finset.Ico 0 n) fun k => ℓ ↦[S k]{fullShare} f) ⊢ (bigSep (Finset.Ico 0 n) fun k => iprop(∃ f : Buf (Elt F) ℓ, ℓ ↦[S k]{fullShare} f) : sProp 𝕄) from
    bigSep_mono fun k _ => (by iintro H; iexists f; iexact H : iprop(ℓ ↦[S k]{fullShare} f) ⊢ iprop(∃ f : Buf (Elt F) ℓ, ℓ ↦[S k]{fullShare} f)))
  iexact H'
include f₀
omit [FloatOps F] in
/-- and pasted again, whatever the parts hold. -/
theorem paste : (bigSep (Finset.Ico 0 n) fun k => iprop(∃ f : Buf (Elt F) ℓ, ℓ ↦[S k]{fullShare} f) : sProp 𝕄) ⊢ iprop(∃ f : Buf (Elt F) ℓ, ℓ ↦{fullShare} f) := by
  haveI : Nonempty (Buf (Elt F) ℓ) := ⟨f₀⟩
  iintro H
  ihave H' := (BI.bigSep_exists_pi (Finset.Ico 0 n) (fun (k : ℕ) (f : Buf (Elt F) ℓ) => (ℓ ↦[S k]{fullShare} f : sProp 𝕄))) $$ H
  icases H' with ⟨%fs, H'⟩
  ihave H2 := (pointsTo_biUnion_join (Finset.Ico 0 n) S fs f₀ hd) $$ H'
  icases H2 with ⟨%g, -, H2⟩
  iexists g
  iapply (show (ℓ ↦[(Finset.Ico 0 n).biUnion S]{fullShare} g : sProp 𝕄) ⊢ ℓ ↦{fullShare} g from Entails.of_eq (by rw [hc]))
  iexact H2
end Cut

section Slots
variable (c : Dev nD)

/-- The elements of a slot, as a part of the whole buffer. -/
def partR (k : ℕ) : Finset S16x2x128x256.Idx := (slot true k).view.set
theorem mem_partR (k : ℕ) (i : S16x2x128x256.Idx) : i ∈ partR k ↔ (i 0).val = k % 16 := mem_slotR k i
theorem disjR : ∀ k ∈ Finset.Ico 0 16, ∀ k' ∈ Finset.Ico 0 16, k ≠ k' →
    Disjoint (partR k) (partR k') := fun k hk k' hk' h =>
  Finset.disjoint_left.mpr fun i hi hi' => by
    rw [mem_partR] at hi hi'; rw [Finset.mem_Ico] at hk hk'; omega
theorem coverR : (Finset.Ico 0 16).biUnion partR = Finset.univ :=
  Finset.eq_univ_iff_forall.mpr fun i => Finset.mem_biUnion.mpr
    ⟨(i 0).val, Finset.mem_Ico.mpr ⟨Nat.zero_le _, (i 0).isLt⟩, (mem_partR _ i).mpr (Nat.mod_eq_of_lt (i 0).isLt).symm⟩
/-- The elements of a slot, as a part of the whole buffer. -/
def partL (k : ℕ) : Finset S15x2x128x256.Idx := (slot false k).view.set
theorem mem_partL (k : ℕ) (i : S15x2x128x256.Idx) : i ∈ partL k ↔ (i 0).val = k % 15 := mem_slotL k i
theorem disjL : ∀ k ∈ Finset.Ico 0 15, ∀ k' ∈ Finset.Ico 0 15, k ≠ k' →
    Disjoint (partL k) (partL k') := fun k hk k' hk' h =>
  Finset.disjoint_left.mpr fun i hi hi' => by
    rw [mem_partL] at hi hi'; rw [Finset.mem_Ico] at hk hk'; omega
theorem coverL : (Finset.Ico 0 15).biUnion partL = Finset.univ :=
  Finset.eq_univ_iff_forall.mpr fun i => Finset.mem_biUnion.mpr
    ⟨(i 0).val, Finset.mem_Ico.mpr ⟨Nat.zero_le _, (i 0).isLt⟩, (mem_partL _ i).mpr (Nat.mod_eq_of_lt (i 0).isLt).symm⟩

omit [FloatOps F] in
theorem cutR : iprop(∃ f : Buf (Elt F) ((c : Thread nD τ).loc cc0_scratch1), ((c : Thread nD τ).loc cc0_scratch1) ↦{fullShare} f)
    ⊢ (bigSep (Finset.Ico 0 (len true)) fun k => anySlot true k c : sProp 𝕄) :=
  cut ((c : Thread nD τ).loc cc0_scratch1) partR 16 disjR coverR
omit [FloatOps F] in
theorem cutL : iprop(∃ f : Buf (Elt F) ((c : Thread nD τ).loc cc0_scratch2), ((c : Thread nD τ).loc cc0_scratch2) ↦{fullShare} f)
    ⊢ (bigSep (Finset.Ico 0 (len false)) fun k => anySlot false k c : sProp 𝕄) :=
  cut ((c : Thread nD τ).loc cc0_scratch2) partL 15 disjL coverL
theorem pasteR : (bigSep (Finset.Ico 0 (len true)) fun k => anySlot true k c : sProp 𝕄)
    ⊢ iprop(∃ f : Buf (Elt F) ((c : Thread nD τ).loc cc0_scratch1), ((c : Thread nD τ).loc cc0_scratch1) ↦{fullShare} f) :=
  paste ((c : Thread nD τ).loc cc0_scratch1) partR 16 disjR coverR (fun _ => FloatOps.ofBits .bf16 0)
theorem pasteL : (bigSep (Finset.Ico 0 (len false)) fun k => anySlot false k c : sProp 𝕄)
    ⊢ iprop(∃ f : Buf (Elt F) ((c : Thread nD τ).loc cc0_scratch2), ((c : Thread nD τ).loc cc0_scratch2) ↦{fullShare} f) :=
  paste ((c : Thread nD τ).loc cc0_scratch2) partL 15 disjL coverL (fun _ => FloatOps.ofBits .bf16 0)

omit [FloatOps F] in
/-- The own block is its whole buffer. -/
theorem ownPts_eq (f : Vec F S2x128x256 .bf16) :
    (ownPts c fullShare f : sProp 𝕄) = (((c : Thread nD τ).loc cc0_scratch0) ↦{fullShare} (f : Buf (Elt F) ((c : Thread nD τ).loc cc0_scratch0))) := by
  exact congrArg (fun S => (((c : Thread nD τ).loc cc0_scratch0) ↦[S]{fullShare} (f : Buf (Elt F) ((c : Thread nD τ).loc cc0_scratch0)) : sProp 𝕄)) (View.set_whole cc0_scratch0)
end Slots

/-! ## The 62 semaphores -/

def family (rx b : Bool) : Finset (Fin 62) := (Finset.Ico 0 (len b)).image (cellNo rx b)

theorem cellNo_injOn : ∀ (rx b : Bool), Set.InjOn (cellNo rx b) (Finset.Ico 0 (len b) : Finset ℕ) := fun rx b k hk k' hk' h => by
  simp only [Finset.coe_Ico, Set.mem_Ico] at hk hk'
  have e := Fin.val_eq_of_eq h
  cases rx <;> cases b <;> simp only [cellNo, semNo, len] at e hk hk' <;> omega

theorem families : (Finset.univ : Finset (Fin 62)) = family false true ∪ (family true true ∪ (family false false ∪ family true false)) := by decide
theorem apart : Disjoint (family false true) (family true true ∪ (family false false ∪ family true false))
    ∧ Disjoint (family true true) (family false false ∪ family true false) ∧ Disjoint (family false false) (family true false) := by decide

omit [FloatOps F] in
theorem bigSep_family (rx b : Bool) (Φ : Fin 62 → sProp 𝕄) : bigSep (family rx b) Φ = bigSep (Finset.Ico 0 (len b)) fun k => Φ (cellNo rx b k) :=
  bigSep_image_of_injOn (cellNo_injOn rx b) Φ
omit [FloatOps F] in
/-- Something for each of them: for each direction's sends and each direction's receives. -/
theorem bigSep_sems (Φ : Fin 62 → sProp 𝕄) : bigSep Finset.univ Φ
    = iprop((bigSep (Finset.Ico 0 (len true)) fun k => Φ (cellNo false true k)) ∗ (bigSep (Finset.Ico 0 (len true)) fun k => Φ (cellNo true true k))
      ∗ (bigSep (Finset.Ico 0 (len false)) fun k => Φ (cellNo false false k)) ∗ (bigSep (Finset.Ico 0 (len false)) fun k => Φ (cellNo true false k))) := by
  rw [families, bigSep_union apart.1, bigSep_union apart.2.1, bigSep_union apart.2.2]
  simp only [bigSep_family]
  rfl

end Cert.RingMoe

end
-- ==== Proof.Access.lean ====
/-
The loads and stores of the kernel: of the staged arguments, of the device's own block, of a slot, of the result.

-/
module

public import proofs.«01_k».proof.Proof.Steps

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The values a device works with -/

/-- Column `j` of a device's ids. -/
def idCol0 (c : Dev nD) : Vec F S256x1 .i32 :=
  (Memref.whole cc0_stg2_0 : Memref sig .tc .vmem S256x2 .i32).view.readAt (Elt F) (Rect.unit (s := S256x2) ![0, 0] S256x1.size inb_S256x2_S256x1_0_0).toLoadRect (riAt m c)
def idCol1 (c : Dev nD) : Vec F S256x1 .i32 :=
  (Memref.whole cc0_stg2_0 : Memref sig .tc .vmem S256x2 .i32).view.readAt (Elt F) (Rect.unit (s := S256x2) ![0, 1] S256x1.size inb_S256x2_S256x1_0_1).toLoadRect (riAt m c)
def toks (c : Dev nD) : Toks F := toksOf (xAt m c) (rwAt m c) (idCol0 m c) (idCol1 m c)

/-- The result `a` of device `c` with what the experts of device `d` add. -/
def addFrom (c : Dev nD) (d : Dev nD) (a : Vec F S256x256 .f32) : FVec F S256x256 .f32 :=
  addf (shapeCast S256x256 a shapeCasts_S256x256_S256x256 : FVec F S256x256 .f32) (contrib (toks m c) (devWord d) (blk m d))

/-- The result before hop `k`. -/
def outAt (c : Dev nD) : ℕ → FVec F S256x256 .f32
  | 0 => contrib (toks m c) (devWord c) (blk m c)
  | k + 1 => if k < 15 then addFrom m c (origin false k c) (addFrom m c (origin true k c) (outAt c k)) else addFrom m c (origin true k c) (outAt c k)

/-! ## The buffers -/

def outPts (c : Dev nD) (f : Vec F S256x256 .f32) : sProp 𝕄 :=
  (c : Thread nD τ).loc cc0_stg4_0 ↦{fullShare} (f : Buf (Elt F) ((c : Thread nD τ).loc cc0_stg4_0))
/-- The staged arguments, as the launch's copies leave them. -/
def inPts (c : Dev nD) : sProp 𝕄 :=
  iprop(((c : Thread nD τ).loc cc0_stg0_0 ↦{fullShare} (xAt m c : Buf (Elt F) ((c : Thread nD τ).loc cc0_stg0_0)))
    ∗ ((c : Thread nD τ).loc cc0_stg1_0 ↦{fullShare} (rwAt m c : Buf (Elt F) ((c : Thread nD τ).loc cc0_stg1_0)))
    ∗ ((c : Thread nD τ).loc cc0_stg2_0 ↦{fullShare} (riAt m c : Buf (Elt F) ((c : Thread nD τ).loc cc0_stg2_0)))
    ∗ ((c : Thread nD τ).loc cc0_stg3_0 ↦{fullShare} (ewAt m c : Buf (Elt F) ((c : Thread nD τ).loc cc0_stg3_0))))

theorem zero2 : (![0, 0] : Fin 2 → ℕ) = fun _ => 0 := funext fun a => by fin_cases a <;> rfl
theorem zero3 : (![0, 0, 0] : Fin 3 → ℕ) = fun _ => 0 := funext fun a => by fin_cases a <;> rfl

variable (c : Dev nD)

theorem run_loadOut (a : Vec F S256x256 .f32) (k : Vec F S256x256 .f32 → Pr F) (Q : PUnit → sProp 𝕄) :
    outPts c a ⊢ iprop((outPts c a -∗ run c (k a) Q) -∗ run c (loadOut A₀ k) Q) := by
  unfold outPts loadOut
  have h := wp_load (Λ := Λ₀) (defs := defs₀ (F := F)) (Γ := PendingWaitsCtx.empty) 𝒱₀ (c : Thread nD τ) none Set.univ (Q := Q) (m := A₀.out) (r := outRect.toLoadRect) (hl := View.loadsAt_vmem h_S256x256)
    (k := k) (q := fullShare) (f := a) (S := Finset.univ) (Finset.subset_univ _)
  rw [show A₀.out.view.readAt (Elt F) outRect.toLoadRect a = a from Memref.readAt_unit_zero (Elt F) cc0_stg4_0 zero2 _ a] at h
  exact h
theorem run_storeOut (a v : Vec F S256x256 .f32) (P : Pr F) (Q : PUnit → sProp 𝕄) :
    outPts c a ⊢ iprop((outPts c v -∗ run c P Q) -∗ run c (storeOut A₀ v P) Q) := by
  unfold outPts storeOut
  have h := wp_store (Λ := Λ₀) (defs := defs₀ (F := F)) (Γ := PendingWaitsCtx.empty) 𝒱₀ (c : Thread nD τ) none Set.univ (Q := Q) (m := A₀.out) (r := outRect) (w := v) (Mk := Finset.univ)
    (hx := View.stores_vmem_bits_univ h_S256x256 rfl) (hm := .inl rfl) (k := fun _ => P) (f := a) (S := Finset.univ) (Finset.subset_univ _)
  rw [show (A₀.out.access outRect).write (Elt F) a v Finset.univ = v from Memref.write_access_unit_zero_univ (Elt F) cc0_stg4_0 zero2 _ a v] at h
  exact h

omit [FloatOps F] in
/-- A slot's block read through its rectangle of the buffer. -/
theorem slot_readR (k : ℕ) (f : Buf (Elt F) ((slot true k).view.loc (c : Thread nD τ))) :
    shapeCast S2x128x256 ((A₀.bR.access (rect16 k)).read (Elt F) f) shapeCasts_S1x2x128x256_S2x128x256 = (slot true k).view.read (Elt F) f := rfl
omit [FloatOps F] in
theorem slot_readL (k : ℕ) (f : Buf (Elt F) ((slot false k).view.loc (c : Thread nD τ))) :
    shapeCast S2x128x256 ((A₀.bL.access (rect15 k)).read (Elt F) f) shapeCasts_S1x2x128x256_S2x128x256 = (slot false k).view.read (Elt F) f := rfl

theorem run_loadSlot (b : Bool) (k : ℕ) (q : PosShare TreeShare) (w : Vec F S2x128x256 .bf16) (P : Vec F S1x2x128x256 .bf16 → Pr F) (Q : PUnit → sProp 𝕄) :
    holds b k c q w ⊢ iprop((∀ v : Vec F S1x2x128x256 .bf16, ⌜shapeCast S2x128x256 v shapeCasts_S1x2x128x256_S2x128x256 = w⌝ -∗ holds b k c q w -∗ run c (P v) Q)
      -∗ run c (loadSlot A₀ b k P) Q) := by
  unfold holds slotPts
  iintro ⟨%f, %hf, H⟩ Hk
  cases b
  · iapply (wp_load_rect (Λ := Λ₀) (defs := defs₀ (F := F)) (Γ := PendingWaitsCtx.empty) 𝒱₀ (c : Thread nD τ) none Set.univ (Q := Q) (m := A₀.bL) (r := rect15 k)
      (k := P) (q := q) (f := f) (S := (slot false k).view.set) (by exact (View.set_reshape _ _).ge)) $$ [H]
    · iexact H
    iintro H
    iapply Hk $$ %_ []
    · ipureintro; exact (slot_readL c k f).trans hf
    iexists f; isplitr; · ipureintro; exact hf
    iexact H
  · iapply (wp_load_rect (Λ := Λ₀) (defs := defs₀ (F := F)) (Γ := PendingWaitsCtx.empty) 𝒱₀ (c : Thread nD τ) none Set.univ (Q := Q) (m := A₀.bR) (r := rect16 k)
      (k := P) (q := q) (f := f) (S := (slot true k).view.set) (by exact (View.set_reshape _ _).ge)) $$ [H]
    · iexact H
    iintro H
    iapply Hk $$ %_ []
    · ipureintro; exact (slot_readR c k f).trans hf
    iexists f; isplitr; · ipureintro; exact hf
    iexact H

/-- The result takes in the block of device `d`, out of a slot. -/
theorem run_accum (b : Bool) (k : ℕ) (q : PosShare TreeShare) (d : Dev nD) (a : Vec F S256x256 .f32) (P : Pr F) (Q : PUnit → sProp 𝕄) :
    iprop(holds b k c q (blk m d) ∗ outPts c a)
      ⊢ iprop(((holds b k c q (blk m d) ∗ outPts c (addFrom m c d a)) -∗ run c P Q) -∗ run c (accum A₀ (toks m c) b k (devWord d) P) Q) := by
  unfold accum
  iintro ⟨Hs, Ho⟩ Hk
  iapply (run_loadOut c a _ Q) $$ [Ho]; · iexact Ho
  iintro Ho
  iapply (run_loadSlot c b k q (blk m d) _ Q) $$ [Hs]; · iexact Hs
  iintro %v %hv Hs
  iapply (run_loadOut c a _ Q) $$ [Ho]; · iexact Ho
  iintro Ho
  rw [show addSlot (toks m c) (devWord d) a v = addFrom m c d a by unfold addSlot addFrom; rw [hv]]
  iapply (run_storeOut c a _ P Q) $$ [Ho]; · iexact Ho
  iintro Ho
  iapply Hk; isplitl [Hs] <;> iassumption

/-- The device's own block is filled, -/
theorem run_fillOwn (f : Vec F S2x128x256 .bf16) (P : Pr F) (Q : PUnit → sProp 𝕄) :
    iprop(inPts m c ∗ ownPts c fullShare f)
      ⊢ iprop(((inPts m c ∗ ownPts c fullShare (blk m c)) -∗ run c P Q) -∗ run c (fillOwn A₀ P) Q) := by
  unfold inPts ownPts fillOwn
  iintro ⟨⟨H0, H1, H2, H3⟩, Ho⟩ Hk
  iapply (wp_load (Λ := Λ₀) (defs := defs₀ (F := F)) (Γ := PendingWaitsCtx.empty) 𝒱₀ (c : Thread nD τ) none Set.univ (Q := Q) (m := A₀.ew) (r := pairRect.toLoadRect)
    (q := fullShare) (f := ewAt m c) (S := Finset.univ) (Finset.subset_univ _)) $$ [H3]
  · iexact H3
  iintro H3
  rw [show A₀.ew.view.readAt (Elt F) pairRect.toLoadRect (ewAt m c) = ewAt m c from Memref.readAt_unit_zero (Elt F) cc0_stg3_0 zero3 _ (ewAt m c)]
  iapply (wp_load (Λ := Λ₀) (defs := defs₀ (F := F)) (Γ := PendingWaitsCtx.empty) 𝒱₀ (c : Thread nD τ) none Set.univ (Q := Q) (m := A₀.own) (r := pairRect.toLoadRect)
    (q := fullShare) (f := f) (S := ownM.view.set) (by exact View.setOn_subset_set _ _)) $$ [Ho]
  · iexact Ho
  iintro Ho
  iapply (wp_store (Λ := Λ₀) (defs := defs₀ (F := F)) (Γ := PendingWaitsCtx.empty) 𝒱₀ (c : Thread nD τ) none Set.univ (Q := Q) (m := A₀.own) (r := pairRect) (w := narrow (ewAt m c)) (Mk := Finset.univ)
    (k := fun _ => P) (f := f) (S := ownM.view.set) (by exact View.setOn_slice_subset_set _ _ _)) $$ [Ho]
  · iexact Ho
  iintro Ho
  rw [show (A₀.own.access pairRect).write (Elt F) f (narrow (ewAt m c)) Finset.univ = blk m c from Memref.write_access_unit_zero_univ (Elt F) cc0_scratch0 zero3 _ f _]
  iapply Hk
  isplitl [H0 H1 H2 H3]
  · isplitl [H0]; · iexact H0
    isplitl [H1]; · iexact H1
    isplitl [H2]; · iexact H2
    iexact H3
  · iexact Ho

/-- the tokens are read, -/
theorem run_readToks (k : Toks F → Pr F) (Q : PUnit → sProp 𝕄) :
    inPts m c ⊢ iprop((inPts m c -∗ run c (k (toks m c)) Q) -∗ run c (readToks A₀ k) Q) := by
  unfold inPts readToks
  iintro ⟨H0, H1, H2, H3⟩ Hk
  iapply (wp_load (Λ := Λ₀) (defs := defs₀ (F := F)) (Γ := PendingWaitsCtx.empty) 𝒱₀ (c : Thread nD τ) none Set.univ (Q := Q) (m := A₀.x)
    (r := (Rect.unit (s := S256x128) ![0, 0] S256x128.size inb_S256x128_S256x128_0_0).toLoadRect)
    (q := fullShare) (f := xAt m c) (S := Finset.univ) (Finset.subset_univ _)) $$ [H0]
  · iexact H0
  iintro H0
  rw [show A₀.x.view.readAt (Elt F) (Rect.unit (s := S256x128) ![0, 0] S256x128.size inb_S256x128_S256x128_0_0).toLoadRect (xAt m c) = xAt m c from
    Memref.readAt_unit_zero (Elt F) cc0_stg0_0 zero2 _ (xAt m c)]
  iapply (wp_load (Λ := Λ₀) (defs := defs₀ (F := F)) (Γ := PendingWaitsCtx.empty) 𝒱₀ (c : Thread nD τ) none Set.univ (Q := Q) (m := A₀.rw)
    (r := (Rect.unit (s := S128x64) ![0, 0] S128x64.size inb_S128x64_S128x64_0_0).toLoadRect)
    (q := fullShare) (f := rwAt m c) (S := Finset.univ) (Finset.subset_univ _)) $$ [H1]
  · iexact H1
  iintro H1
  rw [show A₀.rw.view.readAt (Elt F) (Rect.unit (s := S128x64) ![0, 0] S128x64.size inb_S128x64_S128x64_0_0).toLoadRect (rwAt m c) = rwAt m c from
    Memref.readAt_unit_zero (Elt F) cc0_stg1_0 zero2 _ (rwAt m c)]
  iapply (wp_load (Λ := Λ₀) (defs := defs₀ (F := F)) (Γ := PendingWaitsCtx.empty) 𝒱₀ (c : Thread nD τ) none Set.univ (Q := Q) (m := A₀.ri)
    (r := (Rect.unit (s := S256x2) ![0, 0] S256x1.size inb_S256x2_S256x1_0_0).toLoadRect)
    (q := fullShare) (f := riAt m c) (S := Finset.univ) (Finset.subset_univ _)) $$ [H2]
  · iexact H2
  iintro H2
  iapply (wp_load (Λ := Λ₀) (defs := defs₀ (F := F)) (Γ := PendingWaitsCtx.empty) 𝒱₀ (c : Thread nD τ) none Set.univ (Q := Q) (m := A₀.ri)
    (r := (Rect.unit (s := S256x2) ![0, 1] S256x1.size inb_S256x2_S256x1_0_1).toLoadRect)
    (q := fullShare) (f := riAt m c) (S := Finset.univ) (Finset.subset_univ _)) $$ [H2]
  · iexact H2
  iintro H2
  iapply Hk
  isplitl [H0]; · iexact H0
  isplitl [H1]; · iexact H1
  isplitl [H2]; · iexact H2
  iexact H3

/-- and the result is started from the own block. -/
theorem run_startOut (q : PosShare TreeShare) (a : Vec F S256x256 .f32) (P : Pr F) (Q : PUnit → sProp 𝕄) :
    iprop(ownPts c q (blk m c) ∗ outPts c a)
      ⊢ iprop(((ownPts c q (blk m c) ∗ outPts c (outAt m c 0)) -∗ run c P Q) -∗ run c (startOut A₀ (toks m c) (devWord c) P) Q) := by
  unfold ownPts startOut
  iintro ⟨Ho, Hr⟩ Hk
  iapply (wp_load (Λ := Λ₀) (defs := defs₀ (F := F)) (Γ := PendingWaitsCtx.empty) 𝒱₀ (c : Thread nD τ) none Set.univ (Q := Q) (m := A₀.own) (r := pairRect.toLoadRect)
    (q := q) (f := blk m c) (S := ownM.view.set) (by exact View.setOn_subset_set _ _)) $$ [Ho]
  · iexact Ho
  iintro Ho
  rw [show A₀.own.view.readAt (Elt F) pairRect.toLoadRect (blk m c) = blk m c from Memref.readAt_unit_zero (Elt F) cc0_scratch0 zero3 _ (blk m c)]
  iapply (run_loadOut c a _ Q) $$ [Hr]; · iexact Hr
  iintro Hr
  iapply (run_storeOut c a _ P Q) $$ [Hr]; · iexact Hr
  iintro Hr
  iapply Hk; isplitl [Ho]; · iexact Ho
  iexact Hr

end Cert.RingMoe

end
-- ==== Proof.Hops.lean ====
/-
The hops around the ring: a device's state after each of them, and what one hop does to it.

-/
module

public import proofs.«01_k».proof.Proof.Access

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Shares of a slot -/

omit [FloatOps F] in
theorem holds_split (b : Bool) (k : ℕ) (c : Dev nD) (q : PosShare TreeShare) (w : Vec F S2x128x256 .bf16) :
    holds b k c q w ⊢ iprop(holds b k c q.left w ∗ holds b k c q.right w) := by
  unfold holds slotPts
  iintro ⟨%f, %hf, H⟩
  ihave H' := (pointsTo_share (PosShare.mem_left_op_right q)).1 $$ H
  icases H' with ⟨H1, H2⟩
  isplitl [H1]
  · iexists f; isplitr; · ipureintro; exact hf
    iexact H1
  · iexists f; isplitr; · ipureintro; exact hf
    iexact H2

omit [FloatOps F] in
theorem holds_join (b : Bool) (k : ℕ) (c : Dev nD) (q : PosShare TreeShare) (w : Vec F S2x128x256 .bf16) :
    iprop(holds b k c q.left w ∗ holds b k c q.right w) ⊢ holds b k c q w := by
  unfold holds slotPts
  iintro ⟨⟨%f, %hf, H1⟩, ⟨%g, %hg, H2⟩⟩
  ihave %h := pointsTo_agree $$ [H1 H2]
  · isplitl [H1]; · iexact H1
    iexact H2
  iexists f
  isplitr; · ipureintro; exact hf
  iapply (pointsTo_share (PosShare.mem_left_op_right q)).2
  isplitl [H1]; · iexact H1
  rw [pointsTo_congr fun i hi => (h i (Finset.mem_inter.mpr ⟨hi, hi⟩)).1]
  iexact H2

/-! ## The state -/

/-- The share of a slot the device keeps while the slot is sent on. -/
def keepShare (b : Bool) (k : ℕ) : PosShare TreeShare := if k + 2 < len b then fullShare.right else fullShare

/-- In direction `b` after `i` hops: the receives still to wait for; the sends still to start; the sends to wait for; the slots filled. -/
def side (b : Bool) (i : ℕ) (c : Dev nD) : sProp 𝕄 :=
  iprop((bigSep (Finset.Ico i (len b)) fun k => iprop(atPos ER (cell true b k c) 0 ∅ 0 ∗ cred (tallyAt (cell true b k c) () N)))
    ∗ (bigSep (Finset.Ico (i + 2) (len b)) fun k => iprop(anySlot b k (tgt b k c) ∗ dutyTok ER (cell false b k c) 0 (false, false) ∗ dutyTok ER (cell true b k (tgt b k c)) 0 (false, false)))
    ∗ (bigSep (Finset.Ico 0 (min (i + 2) (len b))) fun k => cred (tallyAt (cell false b k c) () N))
    ∗ (bigSep (Finset.Ico 0 i) fun k => iprop(semVal (cell true b k c) 0 ∗ holds b k c (keepShare b k) (blk m (origin b k c)))))

variable (K : GSem nD τ sig → ℕ) (c : Dev nD)

theorem slot_pay (b : Bool) (i : ℕ) (f : Buf (Elt F) ((slot b i).view.loc (c : Thread nD τ))) (hf : (slot b i).view.read (Elt F) f = blk m (origin b i c)) :
    ((slot b i).view.loc (c : Thread nD τ) ↦[(slot b i).view.set]{fullShare.left} f : sProp 𝕄) ⊢ sendPay m b (i + 2) c := by
  unfold sendPay holds slotPts
  rw [if_neg (by omega), Nat.add_sub_cancel]
  iintro H
  iexists f; isplitr; · ipureintro; exact hf
  iexact H

/-- One direction of a hop: the slot's block comes, and is sent on unless it has gone far enough. -/
theorem turn (b : Bool) (i : ℕ) (hi : i < len b) (p : Prop) [Decidable p] (hp : p ↔ i + 2 < len b) (R : CellTallies nD τ sig Unit) (hR : Above (i + 3) R)
    (P : Pr F) (Q : PUnit → sProp 𝕄) :
    iprop(known m K ∗ side m b i c ∗ owesAny c (owedDir b (i + 2) c + R))
      ⊢ iprop(((side m b (i + 1) c ∗ owesAny c (owedDir b (i + 3) c + R)) -∗ run c P Q)
        -∗ run c (waitRecv A₀ b i (onlyIf p (forward A₀ (ringWord c) b i) P)) Q) := by
  unfold side
  iintro ⟨#HK, ⟨Hin, Hsend, Hcr, Hheld⟩, HO⟩ Hk
  ihave Hin' := (Entails.of_eq (bigSep_Ico_succ_bot hi _)) $$ Hin
  icases Hin' with ⟨⟨Hat, Hc⟩, Hin⟩
  iapply (run_waitRecv m K c b i hi _ Q (owedDir b (i + 2) c + R) (((above_dir b (i + 2) c).mono (by omega)).add hR)) $$ [Hat Hc HO]
  · isplitr; · iexact HK
    isplitl [Hc]; · iexact Hc
    isplitl [HO] <;> iassumption
  iintro ⟨HO, Hz, Hp⟩
  unfold onlyIf
  by_cases h : p
  · rw [if_pos h]
    have h2 := hp.mp h
    have hk : keepShare b i = fullShare.right := if_pos h2
    ihave Hsend' := (Entails.of_eq (bigSep_Ico_succ_bot h2 _)) $$ Hsend
    icases Hsend' with ⟨⟨Hslot, Ht1, Ht2⟩, Hsend⟩
    unfold recvPay
    ihave Hp' := (holds_split b i c fullShare _) $$ Hp
    icases Hp' with ⟨Hl, Hr⟩
    unfold forward
    iapply (run_toDev c b (i + 2) (fun n => sendTo A₀ b (i + 2) (slot b i) (slotOf_words A₀ b i) n P) Q)
    unfold holds slotPts
    icases Hl with ⟨%f, %hf, Hl⟩
    iapply (run_send m K c b (i + 2) h2 (slot b i) (slotOf_words A₀ b i) P Q fullShare.left f (slot_pay m c b i f hf)
      (by rw [origin_tgt_next b i (by cases b <;> simp only [len] at hi <;> omega) c]; exact hf) (owedDir b (i + 3) c + R)) $$ [Hl Hslot HO Ht1 Ht2]
    · isplitr; · iexact HK
      isplitl [Hl]; · iexact Hl
      isplitl [Hslot]; · iexact Hslot
      isplitl [HO]; · rw [owedDir_step b (i + 2) h2 c, add_right_comm]; iexact HO
      isplitl [Ht1] <;> iassumption
    iintro ⟨Hcr', HO⟩
    iapply Hk
    isplitr [HO]
    · isplitl [Hin]; · iexact Hin
      isplitl [Hsend]; · iexact Hsend
      isplitl [Hcr Hcr']
      · rw [show min (i + 1 + 2) (len b) = (i + 2) + 1 by omega, show min (i + 2) (len b) = i + 2 by omega, bigSep_Ico_succ_top (b := i + 2) (Nat.zero_le _)]
        isplitl [Hcr'] <;> iassumption
      · rw [bigSep_Ico_succ_top (Nat.zero_le _), hk]
        isplitr [Hheld]
        · isplitl [Hz]; · iexact Hz
          iexact Hr
        · iexact Hheld
    · iexact HO
  · rw [if_neg h]
    have h2 : ¬ (i + 2 < len b) := fun h' => h (hp.mpr h')
    have hk : keepShare b i = fullShare := if_neg h2
    iapply Hk
    isplitr [HO]
    · isplitl [Hin]; · iexact Hin
      isplitl [Hsend]
      · rw [Finset.Ico_eq_empty (show ¬ (i + 1 + 2 < len b) by omega), Finset.Ico_eq_empty h2]; iexact Hsend
      isplitl [Hcr]
      · rw [show min (i + 1 + 2) (len b) = min (i + 2) (len b) by omega]; iexact Hcr
      · rw [bigSep_Ico_succ_top (Nat.zero_le _), hk]
        unfold recvPay
        isplitr [Hheld]
        · isplitl [Hz] <;> iassumption
        · iexact Hheld
    · rw [owedDir_end b (i + 3) (by omega) c, owedDir_end b (i + 2) (by omega) c]; iexact HO

/-- The result takes in the last filled slot of a direction. -/
theorem take (b : Bool) (i : ℕ) (hi : i < 16) (a : Vec F S256x256 .f32) (P : Pr F) (Q : PUnit → sProp 𝕄) :
    iprop(side m b (i + 1) c ∗ outPts c a)
      ⊢ iprop(((side m b (i + 1) c ∗ outPts c (addFrom m c (origin b i c) a)) -∗ run c P Q) -∗ run c (accum A₀ (toks m c) b i (originWord (ringWord c) b i) P) Q) := by
  rw [originWord_eq b i hi c]
  unfold side
  rw [bigSep_Ico_succ_top (Nat.zero_le i)]
  iintro ⟨⟨Hin, Hsend, Hcr, ⟨Hz, Hs⟩, Hheld⟩, Ho⟩ Hk
  iapply (run_accum m c b i (keepShare b i) (origin b i c) a P Q) $$ [Hs Ho]
  · isplitl [Hs] <;> iassumption
  iintro ⟨Hs, Ho⟩
  iapply Hk
  isplitr [Ho]
  · isplitl [Hin]; · iexact Hin
    isplitl [Hsend]; · iexact Hsend
    isplitl [Hcr]; · iexact Hcr
    isplitr [Hheld]
    · isplitl [Hz] <;> iassumption
    · iexact Hheld
  · iexact Ho

/-- A device's state before hop `i`. -/
def before (i : ℕ) : sProp 𝕄 :=
  iprop(side m true i c ∗ side m false (min i 15) c ∗ owesAny c (owedDir true (i + 2) c + owedDir false (i + 2) c) ∗ outPts c (outAt m c i))

theorem run_hop (i : ℕ) (hi : i < 16) (P : Pr F) (Q : PUnit → sProp 𝕄) :
    iprop(known m K ∗ before m c i) ⊢ iprop((before m c (i + 1) -∗ run c P Q) -∗ run c (hop A₀ (ringWord c) (toks m c) i P) Q) := by
  unfold before hop
  iintro ⟨#HK, Ht, Hf, HO, Ho⟩ Hk
  iapply (turn m K c true i hi _ (by show i < 14 ↔ i + 2 < 16; omega) (owedDir false (i + 2) c) ((above_dir false (i + 2) c).mono (by omega)) _ Q) $$ [Ht HO]
  · isplitr; · iexact HK
    isplitl [Ht] <;> iassumption
  iintro ⟨Ht, HO⟩
  by_cases h : i < 15
  · unfold onlyIf
    rw [if_pos h, if_pos h, show min i 15 = i by omega, show min (i + 1) 15 = i + 1 by omega,
      show outAt m c (i + 1) = addFrom m c (origin false i c) (addFrom m c (origin true i c) (outAt m c i)) from if_pos h]
    iapply (turn m K c false i h (i < 13) (by show i < 13 ↔ i + 2 < 15; omega) (owedDir true (i + 3) c) ((above_dir true (i + 3) c).mono (by omega)) _ Q) $$ [Hf HO]
    · isplitr; · iexact HK
      isplitl [Hf]; · iexact Hf
      rw [add_comm]; iexact HO
    iintro ⟨Hf, HO⟩
    iapply (take m c true i hi (outAt m c i) _ Q) $$ [Ht Ho]
    · isplitl [Ht] <;> iassumption
    iintro ⟨Ht, Ho⟩
    iapply (take m c false i hi _ P Q) $$ [Hf Ho]
    · isplitl [Hf] <;> iassumption
    iintro ⟨Hf, Ho⟩
    iapply Hk
    isplitl [Ht]; · iexact Ht
    isplitl [Hf]; · iexact Hf
    isplitl [HO]; · rw [add_comm]; iexact HO
    iexact Ho
  · obtain rfl : i = 15 := by omega
    unfold onlyIf
    rw [if_neg h, if_neg h, show outAt m c (15 + 1) = addFrom m c (origin true 15 c) (outAt m c 15) from if_neg h]
    iapply (take m c true 15 hi (outAt m c 15) _ Q) $$ [Ht Ho]
    · isplitl [Ht] <;> iassumption
    iintro ⟨Ht, Ho⟩
    iapply Hk
    isplitl [Ht]; · iexact Ht
    isplitl [Hf]; · iexact Hf
    isplitl [HO]; · rw [owedDir_end false (15 + 1 + 2) (by decide) c, owedDir_end false (15 + 2) (by decide) c]; iexact HO
    iexact Ho

theorem run_hops : ∀ (n : ℕ) (hn : n ≤ 16) (P : Pr F) (Q : PUnit → sProp 𝕄),
    iprop(known m K ∗ before m c (16 - n)) ⊢ iprop((before m c 16 -∗ run c P Q) -∗ run c (hops A₀ (ringWord c) (toks m c) n P) Q)
  | 0, _, P, Q => by
    unfold hops
    iintro ⟨-, H⟩ Hk
    iapply Hk; iexact H
  | n + 1, hn, P, Q => by
    unfold hops
    iintro ⟨#HK, H⟩ Hk
    iapply (run_hop m K c (15 - n) (by omega) _ Q) $$ [H]
    · isplitr; · iexact HK
      rw [show 16 - (n + 1) = 15 - n by omega]; iexact H
    iintro H
    iapply (run_hops n (by omega) P Q) $$ [H]
    · isplitr; · iexact HK
      rw [show 15 - n + 1 = 16 - n by omega]; iexact H
    iexact Hk

/-! ## The waits for the sends -/

/-- In direction `b`: the sends still to wait for, and what the others gave back. -/
def sent (b : Bool) (i : ℕ) : sProp 𝕄 :=
  iprop((bigSep (Finset.Ico i (len b)) fun k => iprop(atPos ER (cell false b k c) 0 ∅ 0 ∗ cred (tallyAt (cell false b k c) () N)))
    ∗ (bigSep (Finset.Ico 0 i) fun k => iprop(semVal (cell false b k c) 0 ∗ sendPay m b k c)))

theorem run_drain (b : Bool) (i : ℕ) (hi : i < len b) (P : Pr F) (Q : PUnit → sProp 𝕄) :
    iprop(known m K ∗ sent m c b i ∗ owesAny c 0)
      ⊢ iprop(((sent m c b (i + 1) ∗ owesAny c 0) -∗ run c P Q) -∗ run c (waitSend A₀ b i (srcOf A₀ b i) (srcOf_words A₀ b i) P) Q) := by
  unfold sent
  iintro ⟨#HK, ⟨Hs, Hd⟩, HO⟩ Hk
  ihave Hs' := (Entails.of_eq (bigSep_Ico_succ_bot hi _)) $$ Hs
  icases Hs' with ⟨⟨Hat, Hc⟩, Hs⟩
  iapply (run_waitSend m K c b i hi P Q) $$ [Hat Hc HO]
  · isplitr; · iexact HK
    isplitl [Hc]; · iexact Hc
    isplitl [HO] <;> iassumption
  iintro ⟨HO, Hz, Hp⟩
  iapply Hk
  isplitr [HO]
  · isplitl [Hs]; · iexact Hs
    rw [bigSep_Ico_succ_top (Nat.zero_le _)]
    isplitr [Hd]
    · isplitl [Hz] <;> iassumption
    · iexact Hd
  · iexact HO

theorem run_drains : ∀ (n : ℕ) (hn : n ≤ 16) (P : Pr F) (Q : PUnit → sProp 𝕄),
    iprop(known m K ∗ sent m c true (16 - n) ∗ sent m c false (min (16 - n) 15) ∗ owesAny c 0)
      ⊢ iprop(((sent m c true 16 ∗ sent m c false 15 ∗ owesAny c 0) -∗ run c P Q) -∗ run c (drains A₀ n P) Q)
  | 0, _, P, Q => by
    unfold drains
    iintro ⟨-, H⟩ Hk
    iapply Hk; iexact H
  | n + 1, hn, P, Q => by
    unfold drains
    rw [show 16 - (n + 1) = 15 - n by omega]
    iintro ⟨#HK, Ht, Hf, HO⟩ Hk
    iapply (run_drain m K c true (15 - n) (by show 15 - n < 16; omega) _ Q) $$ [Ht HO]
    · isplitr; · iexact HK
      isplitl [Ht] <;> iassumption
    iintro ⟨Ht, HO⟩
    unfold onlyIf
    by_cases h : 15 - n < 15
    · rw [if_pos h]
      iapply (run_drain m K c false (15 - n) h _ Q) $$ [Hf HO]
      · isplitr; · iexact HK
        isplitl [Hf]; · rw [show min (15 - n) 15 = 15 - n by omega]; iexact Hf
        iexact HO
      iintro ⟨Hf, HO⟩
      iapply (run_drains n (by omega) P Q) $$ [Ht Hf HO]
      · isplitr; · iexact HK
        rw [show 16 - n = 15 - n + 1 by omega, show min (15 - n + 1) 15 = 15 - n + 1 by omega]
        isplitl [Ht]; · iexact Ht
        isplitl [Hf] <;> iassumption
      iexact Hk
    · rw [if_neg h]
      obtain rfl : n = 0 := by omega
      iapply (run_drains 0 (by omega) P Q) $$ [Ht Hf HO]
      · isplitr; · iexact HK
        isplitl [Ht]; · iexact Ht
        isplitl [Hf]; · iexact Hf
        iexact HO
      iexact Hk

end Cert.RingMoe

end
-- ==== Proof.Sound.lean ====
/-
The kernel's body: from what a device starts with to what it ends with.

-/
module

public import proofs.«01_k».proof.Proof.Hops

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts with and ends with -/

/-- Of direction `b`'s slots: what sending into them takes. -/
def sendRes (b : Bool) (c : Dev nD) (k : ℕ) : sProp 𝕄 :=
  iprop(anySlot b k (tgt b k c) ∗ dutyTok ER (cell false b k c) 0 (false, false) ∗ dutyTok ER (cell true b k (tgt b k c)) 0 (false, false))
/-- At the start, of direction `b`: the device's own slots, its places at its cells, the receives it may count on, and the tokens of its sends. -/
def startSide (b : Bool) (c : Dev nD) : sProp 𝕄 :=
  iprop((bigSep (Finset.Ico 0 (len b)) fun k => anySlot b k c)
    ∗ (bigSep (Finset.Ico 0 (len b)) fun k => iprop(atPos ER (cell true b k c) 0 ∅ 0 ∗ cred (tallyAt (cell true b k c) () N)))
    ∗ (bigSep (Finset.Ico 0 (len b)) fun k => iprop(dutyTok ER (cell false b k c) 0 (false, false) ∗ dutyTok ER (cell true b k (tgt b k c)) 0 (false, false)))
    ∗ (bigSep (Finset.Ico 0 (len b)) fun k => atPos ER (cell false b k c) 0 ∅ 0))
/-- At the start, of the barrier: the device's place, the four signals it may count on, the tokens of its own four. -/
def startBar (c : Dev nD) : sProp 𝕄 :=
  iprop(atPos ER (barCell c) 0 ∅ 0 ∗ cred (tallyAt (barCell c) () 4)
    ∗ dutyTok ER (barCell (near 1 c)) 0 (false, false) ∗ dutyTok ER (barCell (near 31 c)) 0 (true, false)
    ∗ dutyTok ER (barCell (near 2 c)) 0 (false, true) ∗ dutyTok ER (barCell (near 30 c)) 0 (true, true))
/-- At the end, of direction `b`: the own slots again, and every counter at zero. -/
def endSide (b : Bool) (c : Dev nD) : sProp 𝕄 :=
  iprop((bigSep (Finset.Ico 0 (len b)) fun k => anySlot b k c)
    ∗ (bigSep (Finset.Ico 0 (len b)) fun k => semVal (cell true b k c) 0)
    ∗ (bigSep (Finset.Ico 0 (len b)) fun k => semVal (cell false b k c) 0))

variable (K : GSem nD τ sig → ℕ) (c : Dev nD)

/-! ## The start: the barrier and the first sends -/

theorem near_inv (a b : Fin 32) (h : b = -a) : near a (near b c) = c := by rw [h, near_forth]

omit [FloatOps F] in
/-- The slots a device hands over with its signal to a neighbour, in the neighbour's words. -/
theorem pay_first (b : Bool) (o : Fin 32) (h : o = -off b 0) : anySlot (F := F) b 0 c ⊢ barPay (near o c) (b, false) := by
  show _ ⊢ anySlot b 0 (tgt b 0 (near o c))
  rw [show tgt b 0 (near o c) = c from near_inv c (off b 0) o h]
omit [FloatOps F] in
theorem pay_later (b : Bool) (o : Fin 32) (h : o = -off b 1) : (bigSep (Finset.Ico 1 (len b)) fun k => anySlot (F := F) b k c) ⊢ barPay (near o c) (b, true) := by
  show _ ⊢ bigSep (Finset.Ico 1 (len b)) fun k => anySlot b k (tgt b k (near o c))
  refine Entails.of_eq (bigSep_congr fun k hk => ?_)
  rw [Finset.mem_Ico] at hk
  have e : off b k = off b 1 := by obtain ⟨j, rfl⟩ : ∃ j, k = j + 1 := ⟨k - 1, by omega⟩; cases b <;> rfl
  rw [show tgt b k (near o c) = c by unfold tgt; rw [e]; exact near_inv c (off b 1) o h]

theorem run_barrier (P : Pr F) (Q : PUnit → sProp 𝕄) :
    iprop(known m K ∗ owesAny c (O₀ c) ∗ startBar c
        ∗ (bigSep (Finset.Ico 0 (len true)) fun k => anySlot true k c) ∗ (bigSep (Finset.Ico 0 (len false)) fun k => anySlot false k c))
      ⊢ iprop(((owesAny c (owedDir true 0 c + owedDir false 0 c) ∗ semVal (barCell c) 0
            ∗ (bigSep (Finset.Ico 0 (len true)) fun k => anySlot true k (tgt true k c))
            ∗ (bigSep (Finset.Ico 0 (len false)) fun k => anySlot false k (tgt false k c))) -∗ run c P Q)
          -∗ run c (barrier (ringWord c) P) Q) := by
  unfold startBar barrier
  iintro ⟨#HK, HO, ⟨Hat, Hc, Ht1, Ht2, Ht3, Ht4⟩, HR, HL⟩ Hk
  ihave HR' := (Entails.of_eq (bigSep_Ico_succ_bot (show 0 < len true by decide) _)) $$ HR
  icases HR' with ⟨HR0, HR⟩
  ihave HL' := (Entails.of_eq (bigSep_Ico_succ_bot (show 0 < len false by decide) _)) $$ HL
  icases HL' with ⟨HL0, HL⟩
  iapply (run_toDev c true 0 (fun n₁ => toDev (nearWord (ringWord c) 4294967295#32) fun n₂ => signal n₁ <| signal n₂ <|
    toDev (nearWord (ringWord c) 2#32) fun n₃ => toDev (nearWord (ringWord c) 4294967294#32) fun n₄ => signal n₃ <| signal n₄ <|
    .op (.semWait barS (4#32 : BitVec 32).toInt) fun _ => P) Q)
  iapply (run_toDev c false 0 (fun n₂ => signal (tgt true 0 c) <| signal n₂ <|
    toDev (nearWord (ringWord c) 2#32) fun n₃ => toDev (nearWord (ringWord c) 4294967294#32) fun n₄ => signal n₃ <| signal n₄ <|
    .op (.semWait barS (4#32 : BitVec 32).toInt) fun _ => P) Q)
  iapply (run_signal m K c (near 1 c) (false, false) _ Q (O₁ c)) $$ [HO Ht1 HL0]
  · isplitr; · iexact HK
    isplitl [HO]; · iexact HO
    isplitl [Ht1]; · iexact Ht1
    iapply (pay_first c false 1 (by decide)); iexact HL0
  iintro HO
  iapply (run_signal m K c (near 31 c) (true, false) _ Q (O₂ c)) $$ [HO Ht2 HR0]
  · isplitr; · iexact HK
    isplitl [HO]; · iexact HO
    isplitl [Ht2]; · iexact Ht2
    iapply (pay_first c true 31 (by decide)); iexact HR0
  iintro HO
  iapply (run_toDev c true 1 (fun n₃ => toDev (nearWord (ringWord c) 4294967294#32) fun n₄ => signal n₃ <| signal n₄ <|
    .op (.semWait barS (4#32 : BitVec 32).toInt) fun _ => P) Q)
  iapply (run_toDev c false 1 (fun n₄ => signal (tgt true 1 c) <| signal n₄ <|
    .op (.semWait barS (4#32 : BitVec 32).toInt) fun _ => P) Q)
  iapply (run_signal m K c (near 2 c) (false, true) _ Q (O₃ c)) $$ [HO Ht3 HL]
  · isplitr; · iexact HK
    isplitl [HO]; · iexact HO
    isplitl [Ht3]; · iexact Ht3
    iapply (pay_later c false 2 (by decide)); iexact HL
  iintro HO
  iapply (run_signal m K c (near 30 c) (true, true) _ Q (owedMoves c)) $$ [HO Ht4 HR]
  · isplitr; · iexact HK
    isplitl [HO]; · iexact HO
    isplitl [Ht4]; · iexact Ht4
    iapply (pay_later c true 30 (by decide)); iexact HR
  iintro HO
  iapply (run_waitBar m K c P Q (owedMoves c) (above_moves c)) $$ [HO Hc Hat]
  · isplitr; · iexact HK
    isplitl [Hc]; · iexact Hc
    isplitl [HO] <;> iassumption
  iintro ⟨HO, Hz, H1, H2⟩
  iapply Hk
  isplitl [HO]; · iexact HO
  isplitl [Hz]; · iexact Hz
  isplitl [H1] <;> iassumption

/-- One of the first sends, of the device's own block. -/
theorem run_first (b : Bool) (k : ℕ) (hk : k < 2) (R : CellTallies nD τ sig Unit) (P : Pr F) (Q : PUnit → sProp 𝕄) :
    iprop(known m K ∗ ownPts c (ownShare b k) (blk m c) ∗ (bigSep (Finset.Ico k (len b)) (sendRes b c)) ∗ owesAny c (owedDir b k c + R))
      ⊢ iprop((((bigSep (Finset.Ico (k + 1) (len b)) (sendRes b c)) ∗ cred (tallyAt (cell false b k c) () N) ∗ owesAny c (owedDir b (k + 1) c + R)) -∗ run c P Q)
        -∗ run c (firstSend A₀ (ringWord c) b k (offWord b k) P) Q) := by
  have hl : k < len b := by cases b <;> simp only [len] <;> omega
  iintro ⟨#HK, Ho, Hs, HO⟩ Hk
  ihave Hs' := (Entails.of_eq (bigSep_Ico_succ_bot hl _)) $$ Hs
  unfold sendRes
  icases Hs' with ⟨⟨Hslot, Ht1, Ht2⟩, Hs⟩
  unfold firstSend
  iapply (run_toDev c b k (fun n => sendTo A₀ b k A₀.own A₀.hown.wordExact n P) Q)
  iapply (run_send m K c b k hl A₀.own A₀.hown.wordExact P Q (ownShare b k) (blk m c) (by unfold sendPay; rw [if_pos hk]; exact BIBase.Entails.refl)
    (by rw [origin_tgt_first b k hk c]; rfl) (owedDir b (k + 1) c + R)) $$ [Ho Hslot HO Ht1 Ht2]
  · isplitr; · iexact HK
    isplitl [Ho]; · unfold ownPts; iexact Ho
    isplitl [Hslot]; · iexact Hslot
    isplitl [HO]; · rw [owedDir_step b k hl c, add_right_comm]; iexact HO
    isplitl [Ht1] <;> iassumption
  iintro ⟨Hc, HO⟩
  iapply Hk
  isplitl [Hs]; · iexact Hs
  isplitl [Hc] <;> iassumption

/-! ## The end: the shares come together again -/

omit [FloatOps F] in
theorem own_split (q : PosShare TreeShare) (f : Vec F S2x128x256 .bf16) : ownPts c q f ⊢ iprop(ownPts c q.left f ∗ ownPts c q.right f) := by
  unfold ownPts
  exact (pointsTo_share (PosShare.mem_left_op_right q)).1
omit [FloatOps F] in
theorem own_join (q : PosShare TreeShare) (f : Vec F S2x128x256 .bf16) : iprop(ownPts c q.left f ∗ ownPts c q.right f) ⊢ ownPts c q f := by
  unfold ownPts
  exact (pointsTo_share (PosShare.mem_left_op_right q)).2

omit [FloatOps F] in
theorem holds_any (b : Bool) (k : ℕ) (w : Vec F S2x128x256 .bf16) : holds b k c fullShare w ⊢ anySlot b k c := by
  unfold holds anySlot
  iintro ⟨%f, -, H⟩
  iexists f; iexact H

/-- The slots that were sent on. -/
theorem rejoin_to (b : Bool) : ∀ n, n + 2 ≤ len b →
    iprop((bigSep (Finset.Ico 2 (n + 2)) fun k => sendPay m b k c) ∗ (bigSep (Finset.Ico 0 n) fun k => holds b k c (keepShare b k) (blk m (origin b k c))))
      ⊢ (bigSep (Finset.Ico 0 n) fun k => anySlot b k c : sProp 𝕄)
  | 0, _ => by
    rw [Finset.Ico_self 0]
    simp only [bigSep_empty]
    iintro -; iempintro
  | n + 1, h => by
    rw [show n + 1 + 2 = (n + 2) + 1 by omega, bigSep_Ico_succ_top (b := n + 2) (by omega), bigSep_Ico_succ_top (b := n) (Nat.zero_le _), bigSep_Ico_succ_top (b := n) (Nat.zero_le _)]
    iintro ⟨⟨Hp, Hps⟩, ⟨Hh, Hhs⟩⟩
    isplitl [Hp Hh]
    · iapply (holds_any c b n (blk m (origin b n c)))
      iapply (holds_join b n c fullShare (blk m (origin b n c)))
      isplitl [Hp]
      · iapply (Entails.of_eq (show sendPay m b (n + 2) c = holds b n c fullShare.left (blk m (origin b n c)) by unfold sendPay; rw [if_neg (by omega), Nat.add_sub_cancel]))
        iexact Hp
      · rw [show keepShare b n = fullShare.right from if_pos (by omega)]; iexact Hh
    · iapply (rejoin_to b n (by omega))
      isplitl [Hps] <;> iassumption

/-- A direction's slots and the own block's shares, whole again. -/
theorem rejoin (b : Bool) :
    iprop((bigSep (Finset.Ico 0 (len b)) fun k => sendPay m b k c) ∗ (bigSep (Finset.Ico 0 (len b)) fun k => holds b k c (keepShare b k) (blk m (origin b k c))))
      ⊢ iprop(ownPts c (ownShare b 0) (blk m c) ∗ ownPts c (ownShare b 1) (blk m c) ∗ (bigSep (Finset.Ico 0 (len b)) fun k => anySlot b k c) : sProp 𝕄) := by
  obtain ⟨l, hl⟩ : ∃ l, len b = l + 2 := by cases b; exacts [⟨13, rfl⟩, ⟨14, rfl⟩]
  have hr := rejoin_to m c b l (by omega)
  rw [hl, bigSep_Ico_succ_bot (show 0 < l + 2 by omega), bigSep_Ico_succ_bot (show 0 + 1 < l + 2 by omega),
    bigSep_Ico_succ_top (b := l + 1) (Nat.zero_le _), bigSep_Ico_succ_top (b := l) (Nat.zero_le _), bigSep_Ico_succ_top (b := l + 1) (Nat.zero_le _), bigSep_Ico_succ_top (b := l) (Nat.zero_le _),
    show keepShare b (l + 1) = fullShare from if_neg (by omega), show keepShare b l = fullShare from if_neg (by omega),
    show sendPay m b 0 c = ownPts c (ownShare b 0) (blk m c) from if_pos (by decide), show sendPay m b (0 + 1) c = ownPts c (ownShare b 1) (blk m c) from if_pos (by decide)]
  iintro ⟨⟨H0, H1, Hp⟩, ⟨Ha, Hb, Hh⟩⟩
  isplitl [H0]; · iexact H0
  isplitl [H1]; · iexact H1
  isplitl [Ha]; · iapply (holds_any c b (l + 1) _); iexact Ha
  isplitl [Hb]; · iapply (holds_any c b l _); iexact Hb
  iapply hr
  isplitl [Hp] <;> iassumption

omit [FloatOps F] in
theorem pair_out (S : Finset ℕ) (A B : ℕ → sProp 𝕄) : (bigSep S fun k => iprop(A k ∗ B k)) ⊢ iprop(bigSep S A ∗ bigSep S B) := Entails.of_eq (bigSep_sep' S A B)
omit [FloatOps F] in
theorem pair_in (S : Finset ℕ) (A B : ℕ → sProp 𝕄) : iprop(bigSep S A ∗ bigSep S B) ⊢ bigSep S fun k => iprop(A k ∗ B k) := Entails.of_eq (bigSep_sep' S A B).symm

/-! ## The body -/

def startSt (a : Vec F S256x256 .f32) (f : Vec F S2x128x256 .bf16) : sProp 𝕄 :=
  iprop(inPts m c ∗ outPts c a ∗ ownPts c fullShare f ∗ owesAny c (O₀ c) ∗ startBar c ∗ startSide true c ∗ startSide false c)
def endSt : sProp 𝕄 :=
  iprop(inPts m c ∗ outPts c (outAt m c 16) ∗ ownPts c fullShare (blk m c) ∗ owesAny c 0 ∗ semVal (barCell c) 0 ∗ endSide true c ∗ endSide false c)

/-- The sends of the own block, and the state the hops start from. -/
theorem run_firsts (P : Pr F) (Q : PUnit → sProp 𝕄) :
    iprop(known m K ∗ ownPts c fullShare (blk m c) ∗ owesAny c (owedDir true 0 c + owedDir false 0 c)
        ∗ (bigSep (Finset.Ico 0 (len true)) (sendRes true c)) ∗ (bigSep (Finset.Ico 0 (len false)) (sendRes false c)))
      ⊢ iprop(((ownPts c rest4 (blk m c) ∗ owesAny c (owedDir true 2 c + owedDir false 2 c)
          ∗ ((bigSep (Finset.Ico 2 (len true)) (sendRes true c)) ∗ (bigSep (Finset.Ico 0 2) fun k => cred (tallyAt (cell false true k c) () N)))
          ∗ ((bigSep (Finset.Ico 2 (len false)) (sendRes false c)) ∗ (bigSep (Finset.Ico 0 2) fun k => cred (tallyAt (cell false false k c) () N)))) -∗ run c P Q)
        -∗ run c (firstSend A₀ (ringWord c) true 0 1#32 <| firstSend A₀ (ringWord c) false 0 4294967295#32 <|
            firstSend A₀ (ringWord c) true 1 2#32 <| firstSend A₀ (ringWord c) false 1 4294967294#32 P) Q) := by
  iintro ⟨#HK, Ho, HO, HR, HL⟩ Hk
  ihave Ho' := (own_split c fullShare (blk m c)) $$ Ho
  icases Ho' with ⟨H1, Ho⟩
  ihave Ho' := (own_split c rest1 (blk m c)) $$ Ho
  icases Ho' with ⟨H2, Ho⟩
  ihave Ho' := (own_split c rest2 (blk m c)) $$ Ho
  icases Ho' with ⟨H3, Ho⟩
  ihave Ho' := (own_split c rest3 (blk m c)) $$ Ho
  icases Ho' with ⟨H4, Ho⟩
  iapply (run_first m K c true 0 (by decide) (owedDir false 0 c) _ Q) $$ [H1 HR HO]
  · isplitr; · iexact HK
    isplitl [H1]; · iexact H1
    isplitl [HR] <;> iassumption
  iintro ⟨HR, Hc1, HO⟩
  iapply (run_first m K c false 0 (by decide) (owedDir true 1 c) _ Q) $$ [H2 HL HO]
  · isplitr; · iexact HK
    isplitl [H2]; · iexact H2
    isplitl [HL]; · iexact HL
    rw [add_comm]; iexact HO
  iintro ⟨HL, Hc2, HO⟩
  iapply (run_first m K c true 1 (by decide) (owedDir false 1 c) _ Q) $$ [H3 HR HO]
  · isplitr; · iexact HK
    isplitl [H3]; · iexact H3
    isplitl [HR]; · iexact HR
    rw [add_comm]; iexact HO
  iintro ⟨HR, Hc3, HO⟩
  iapply (run_first m K c false 1 (by decide) (owedDir true 2 c) _ Q) $$ [H4 HL HO]
  · isplitr; · iexact HK
    isplitl [H4]; · iexact H4
    isplitl [HL]; · iexact HL
    rw [add_comm]; iexact HO
  iintro ⟨HL, Hc4, HO⟩
  iapply Hk
  rw [bigSep_Ico_succ_top (b := 1) (Nat.zero_le _), bigSep_Ico_one, bigSep_Ico_succ_top (b := 1) (Nat.zero_le _), bigSep_Ico_one]
  isplitl [Ho]; · iexact Ho
  isplitl [HO]; · rw [add_comm]; iexact HO
  isplitl [HR Hc1 Hc3]
  · isplitl [HR]; · iexact HR
    isplitl [Hc3] <;> iassumption
  · isplitl [HL]; · iexact HL
    isplitl [Hc4] <;> iassumption

/-- A direction before the first hop. -/
theorem side_zero (b : Bool) :
    iprop((bigSep (Finset.Ico 0 (len b)) fun k => iprop(atPos ER (cell true b k c) 0 ∅ 0 ∗ cred (tallyAt (cell true b k c) () N)))
        ∗ (bigSep (Finset.Ico 2 (len b)) (sendRes b c)) ∗ (bigSep (Finset.Ico 0 2) fun k => cred (tallyAt (cell false b k c) () N)))
      ⊢ side m b 0 c := by
  unfold side sendRes
  rw [show min (0 + 2) (len b) = 2 by cases b <;> rfl, Finset.Ico_self, bigSep_empty]
  iintro ⟨H1, H2, H3⟩
  isplitl [H1]; · iexact H1
  isplitl [H2]; · iexact H2
  isplitl [H3]; · iexact H3
  iempintro

/-- A direction after the last hop: the sends to wait for, the receives' counters, the slots. -/
theorem side_end (b : Bool) :
    side m b (len b) c ⊢ iprop((bigSep (Finset.Ico 0 (len b)) fun k => cred (tallyAt (cell false b k c) () N))
      ∗ (bigSep (Finset.Ico 0 (len b)) fun k => semVal (cell true b k c) 0)
      ∗ (bigSep (Finset.Ico 0 (len b)) fun k => holds b k c (keepShare b k) (blk m (origin b k c)))) := by
  unfold side
  rw [show min (len b + 2) (len b) = len b by omega]
  iintro ⟨-, -, H1, H2⟩
  isplitl [H1]; · iexact H1
  iapply (pair_out _ _ _); iexact H2

theorem sound_body (a : Vec F S256x256 .f32) (f : Vec F S2x128x256 .bf16) (Q : PUnit → sProp 𝕄) :
    iprop(known m K ∗ startSt m c a f) ⊢ iprop((endSt m c -∗ Q ⟨⟩) -∗ run c (body A₀) Q) := by
  unfold startSt startSide body
  iintro ⟨#HK, Hin, Hout, Hown, HO, Hbar, ⟨HRs, HRr, HRt, HRa⟩, ⟨HLs, HLr, HLt, HLa⟩⟩ Hk
  iapply (show run c (barrier (ringWord c) <| fillOwn A₀ <|
      firstSend A₀ (ringWord c) true 0 1#32 <| firstSend A₀ (ringWord c) false 0 4294967295#32 <|
      firstSend A₀ (ringWord c) true 1 2#32 <| firstSend A₀ (ringWord c) false 1 4294967294#32 <|
      readToks A₀ fun t => startOut A₀ t (posWord c) <|
      hops A₀ (ringWord c) t 16 <| drains A₀ 16 <| .ret ⟨⟩) Q ⊢ run c (.op .deviceId fun d => barrier (ringWord d) <| fillOwn A₀ <|
      firstSend A₀ (ringWord d) true 0 1#32 <| firstSend A₀ (ringWord d) false 0 4294967295#32 <|
      firstSend A₀ (ringWord d) true 1 2#32 <| firstSend A₀ (ringWord d) false 1 4294967294#32 <|
      readToks A₀ fun t => startOut A₀ t (posWord d) <|
      hops A₀ (ringWord d) t 16 <| drains A₀ 16 <| .ret ⟨⟩) Q by unfold run; rw [wp_deviceId])
  iapply (run_barrier m K c _ Q) $$ [HO Hbar HRs HLs]
  · isplitr; · iexact HK
    isplitl [HO]; · iexact HO
    isplitl [Hbar]; · iexact Hbar
    isplitl [HRs] <;> iassumption
  iintro ⟨HO, Hbz, HRs, HLs⟩
  iapply (run_fillOwn m c f _ Q) $$ [Hin Hown]
  · isplitl [Hin] <;> iassumption
  iintro ⟨Hin, Hown⟩
  iapply (run_firsts m K c _ Q) $$ [Hown HO HRs HRt HLs HLt]
  · isplitr; · iexact HK
    isplitl [Hown]; · iexact Hown
    isplitl [HO]; · iexact HO
    unfold sendRes
    isplitl [HRs HRt]
    · iapply (pair_in _ _ _); isplitl [HRs] <;> iassumption
    · iapply (pair_in _ _ _); isplitl [HLs] <;> iassumption
  iintro ⟨Hown, HO, HR, HL⟩
  iapply (run_readToks m c _ Q) $$ [Hin]; · iexact Hin
  iintro Hin
  rw [posWord_eq]
  iapply (run_startOut m c rest4 a _ Q) $$ [Hown Hout]
  · isplitl [Hown] <;> iassumption
  iintro ⟨Hown, Hout⟩
  iapply (run_hops m K c 16 (by decide) _ Q) $$ [HRr HR HLr HL HO Hout]
  · isplitr; · iexact HK
    unfold before
    isplitl [HRr HR]
    · iapply (side_zero m c true); isplitl [HRr] <;> iassumption
    isplitl [HLr HL]
    · iapply (side_zero m c false); isplitl [HLr] <;> iassumption
    isplitl [HO] <;> iassumption
  unfold before
  iintro ⟨HR, HL, HO, Hout⟩
  ihave HR' := (show side m true 16 c ⊢ _ from side_end m c true) $$ HR
  icases HR' with ⟨HRc, HRz, HRh⟩
  ihave HL' := (show side m false (min 16 15) c ⊢ _ from side_end m c false) $$ HL
  icases HL' with ⟨HLc, HLz, HLh⟩
  iapply (run_drains m K c 16 (by decide) _ Q) $$ [HRa HRc HLa HLc HO]
  · isplitr; · iexact HK
    unfold sent
    isplitl [HRa HRc]
    · isplitl [HRa HRc]
      · iapply (pair_in _ _ _); isplitl [HRa]; · iexact HRa
        iexact HRc
      · rw [show Finset.Ico 0 (16 - 16) = ∅ from rfl, bigSep_empty]; iempintro
    isplitl [HLa HLc]
    · isplitl [HLa HLc]
      · iapply (pair_in _ _ _); isplitl [HLa]; · iexact HLa
        iexact HLc
      · rw [show Finset.Ico 0 (min (16 - 16) 15) = ∅ from rfl, bigSep_empty]; iempintro
    rw [owedDir_end true (16 + 2) (by decide) c, owedDir_end false (16 + 2) (by decide) c, add_zero]
    iexact HO
  unfold sent
  iintro ⟨⟨-, HR⟩, ⟨-, HL⟩, HO⟩
  ihave HR' := (pair_out _ _ _) $$ HR
  icases HR' with ⟨HRy, HRp⟩
  ihave HL' := (pair_out _ _ _) $$ HL
  icases HL' with ⟨HLy, HLp⟩
  ihave HR' := (rejoin m c true) $$ [HRp HRh]
  · isplitl [HRp]; · iexact HRp
    iexact HRh
  icases HR' with ⟨H1, H3, HRs⟩
  ihave HL' := (rejoin m c false) $$ [HLp HLh]
  · isplitl [HLp]; · iexact HLp
    iexact HLh
  icases HL' with ⟨H2, H4, HLs⟩
  unfold run
  rw [wp_ret]
  imodintro
  iapply Hk
  unfold endSt endSide
  isplitl [Hin]; · iexact Hin
  isplitl [Hout]; · iexact Hout
  isplitl [H1 H2 H3 H4 Hown]
  · iapply (own_join c fullShare (blk m c)); isplitl [H1]; · iexact H1
    iapply (own_join c rest1 (blk m c)); isplitl [H2]; · iexact H2
    iapply (own_join c rest2 (blk m c)); isplitl [H3]; · iexact H3
    iapply (own_join c rest3 (blk m c)); isplitl [H4]; · iexact H4
    iexact Hown
  isplitl [HO]; · iexact HO
  isplitl [Hbz]; · iexact Hbz
  isplitl [HRs HRz HRy]
  · isplitl [HRs]; · iexact HRs
    isplitl [HRz]; · iexact HRz
    iexact HRy
  · isplitl [HLs]; · iexact HLs
    isplitl [HLz]; · iexact HLz
    iexact HLy

end Cert.RingMoe

end
-- ==== Proof.Deal.lean ====
/-
What the launch deals out: each device's places, the tokens of the units it pays, and the credits of the units it is paid.
-/
module

public import proofs.«01_k».proof.Proof.Buffers
public import proofs.«01_k».proof.Proof.Sound

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The credits -/

/-- What is owed over all devices to one receive cell: one block; -/
theorem owed_tally (b b' : Bool) (k k' : ℕ) (hk : k < len b) (hk' : k' < len b') (c d : Dev nD) :
    (tallyAt (cell true b' k' (tgt b' k' d)) () N : CellTallies nD τ sig Unit) (cell true b k c) ()
      = if b' = b ∧ k' = k ∧ d = near (-off b k) c then N else 0 := by
  rw [tallyAt_apply]
  refine if_congr ⟨fun h => ?_, fun h => ?_⟩ rfl rfl
  · obtain ⟨-, h2, h3, h4⟩ := cell_inj hk hk' h.1
    subst h2; subst h3
    exact ⟨rfl, rfl, near_eq_iff.mp h4.symm⟩
  · obtain ⟨rfl, rfl, h3⟩ := h
    rw [show tgt b' k' d = c from near_eq_iff.mpr h3]; exact ⟨rfl, rfl⟩

theorem owed_dir (b b' : Bool) (k : ℕ) (hk : k < len b) (c d : Dev nD) :
    owedDir b' 0 d (cell true b k c) () = if b' = b ∧ d = near (-off b k) c then N else 0 := by
  unfold owedDir
  rw [Finset.sum_apply, Finsupp.finset_sum_apply, Finset.sum_congr rfl fun k' hk' => owed_tally b b' k k' hk (Finset.mem_Ico.mp hk').2 c d]
  by_cases h : b' = b ∧ d = near (-off b k) c
  · obtain ⟨rfl, h⟩ := h
    rw [if_pos ⟨rfl, h⟩, Finset.sum_eq_single k (fun k' _ hne => if_neg fun h' => hne h'.2.1) (fun hn => absurd (Finset.mem_Ico.mpr ⟨Nat.zero_le _, hk⟩) hn),
      if_pos ⟨rfl, rfl, h⟩]
  · rw [if_neg h]
    exact Finset.sum_eq_zero fun k' _ => if_neg fun h' => h ⟨h'.1, h'.2.2⟩

theorem bar_owes_no_cell (b : Bool) (k : ℕ) (c d : Dev nD) : (tallyAt (barCell d) () 1 : CellTallies nD τ sig Unit) (cell true b k c) () = 0 := by
  rw [tallyAt_ne_cell (cell_ne_bar true b k c d)]; rfl

theorem owed_recv (b : Bool) (k : ℕ) (hk : k < len b) (c d : Dev nD) :
    O₀ d (cell true b k c) () = if d = near (-off b k) c then N else 0 := by
  unfold O₀ O₁ O₂ O₃ owedMoves
  simp only [Pi.add_apply, Finsupp.add_apply, bar_owes_no_cell, owed_dir b _ k hk c d, Nat.add_zero]
  cases b <;> simp

theorem launch_recv (b : Bool) (k : ℕ) (hk : k < len b) (c : Dev nD) :
    tallyOn (cell true b k c) (launchCredit (Pipeline.owing O₀) 0 (cell true b k c)) = (tallyAt (cell true b k c) () N : CellTallies nD τ sig Unit) := by
  unfold tallyAt; refine congrArg _ (Finsupp.ext fun u => ?_); cases u
  rw [Pipeline.launchCredit_owing, Finsupp.single_eq_same, Finset.sum_congr rfl fun d _ => owed_recv b k hk c d,
    Finset.sum_ite_eq' Finset.univ (near (-off b k) c) fun _ => N, if_pos (Finset.mem_univ _)]

/-- to a barrier cell: one unit by each of the four that signal it. -/
theorem owed_unit (o : Fin 32) (c d : Dev nD) :
    (tallyAt (barCell (near o d)) () 1 : CellTallies nD τ sig Unit) (barCell c) () = if d = near (-o) c then 1 else 0 := by
  rw [tallyAt_apply]
  refine if_congr ⟨fun h => ?_, fun h => ?_⟩ rfl rfl
  · exact near_eq_iff.mp (congrArg (fun g : GSem nD τ sig => g.1.1) h.1).symm
  · rw [near_eq_iff.mpr h]; exact ⟨rfl, rfl⟩
theorem dir_owes_no_bar (b : Bool) (c d : Dev nD) : owedDir b 0 d (barCell c) () = 0 := by
  unfold owedDir
  rw [Finset.sum_apply, Finsupp.finset_sum_apply]
  exact Finset.sum_eq_zero fun k _ => by rw [tallyAt_ne_cell fun h => cell_ne_bar _ _ _ _ _ h.symm]; rfl
theorem sum_unit (e : Dev nD) : (∑ d : Dev nD, if d = e then 1 else 0) = 1 := by
  rw [Finset.sum_ite_eq' Finset.univ e fun _ => 1, if_pos (Finset.mem_univ _)]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]
  unfold O₀ O₁ O₂ O₃ owedMoves
  simp only [Pi.add_apply, Finsupp.add_apply, dir_owes_no_bar, owed_unit, Finset.sum_add_distrib, sum_unit, Finset.sum_const_zero]
  rfl

/-- The credits a device starts with. -/
def startCreds (c : Dev nD) : sProp 𝕄 :=
  iprop(cred (tallyAt (barCell c) () 4) ∗ (bigSep (Finset.Ico 0 (len true)) fun k => cred (tallyAt (cell true true k c) () N))
    ∗ (bigSep (Finset.Ico 0 (len false)) fun k => cred (tallyAt (cell true false k c) () N)))

def ownSem (j : Fin 62) : SemLoc sig := semOf (.inl j)
theorem ownSem_inj : Function.Injective ownSem := fun j j' h => Sum.inl_injective (semOf_inj h)
theorem ownSem_cellNo (rx b : Bool) (k : ℕ) : ownSem (cellNo rx b k) = .dma (semAt rx b k) := semOf_cellNo rx b k

omit [FloatOps F] in
theorem creds (c : Dev nD) : (Pipeline.launchCred O₀ c : sProp 𝕄) ⊢ startCreds c := by
  have hs : (Finset.univ.map ⟨ownSem, ownSem_inj⟩ : Finset (SemLoc sig)) ⊆ Finset.univ.erase (SemLoc.reg barS) := fun s hs => by
    obtain ⟨j, -, rfl⟩ := Finset.mem_map.mp hs
    exact Finset.mem_erase.mpr ⟨(fun h => nomatch h), Finset.mem_univ _⟩
  have hr (b : Bool) : (bigSep (Finset.Ico 0 (len b)) fun k => (cred (tallyOn ((c.tc : Thread nD τ), ownSem (cellNo true b k))
        (launchCredit (Pipeline.owing O₀) 0 ((c.tc : Thread nD τ), ownSem (cellNo true b k)))) : sProp 𝕄))
      ⊢ bigSep (Finset.Ico 0 (len b)) fun k => cred (tallyAt (cell true b k c) () N) :=
    Entails.of_eq (bigSep_congr fun k hk => by rw [ownSem_cellNo]; exact congrArg _ (launch_recv b k (Finset.mem_Ico.mp hk).2 c))
  unfold Pipeline.launchCred startCreds
  rw [bigSep_univ_at _ (SemLoc.reg barS), launch_bar]
  refine sep_mono_right ?_
  refine (bigSep_subset hs).trans ?_
  rw [bigSep_map]
  refine (Entails.of_eq (bigSep_sems _)).trans ?_
  iintro ⟨-, H1, -, H2⟩
  isplitl [H1]
  · iapply (hr true); iexact H1
  · iapply (hr false); iexact H2

/-! ## The tokens -/

/-- How far from its cell's device the payer's target is turned: the payer of a receive stands that far back. -/
def rot (j : Fin 62) : Fin 32 :=
  if j.val < 16 then 0 else if j.val < 32 then off true (j.val - 16) else if j.val < 47 then 0 else off false (j.val - 47)
theorem rot_send (b : Bool) (k : ℕ) (hk : k < len b) : rot (cellNo false b k) = 0 := by
  cases b <;> simp only [len] at hk <;> simp only [rot, cellNo, semNo, Nat.mod_eq_of_lt hk]
  · rw [if_neg (by omega), if_neg (by omega), if_pos (by omega)]
  · rw [if_pos (by omega)]
theorem rot_recv (b : Bool) (k : ℕ) (hk : k < len b) : rot (cellNo true b k) = off b k := by
  cases b <;> simp only [len] at hk <;> simp only [rot, cellNo, semNo, Nat.mod_eq_of_lt hk]
  · rw [if_neg (by omega), if_neg (by omega), if_neg (by omega)]; congr 1; omega
  · rw [if_neg (by omega), if_pos (by omega)]; congr 1; omega
/-- Which neighbour a device's barrier signal of each kind goes to. -/
def turnOf : Duty → Fin 32
  | (false, false) => 1
  | (true, false) => 31
  | (false, true) => 2
  | (true, true) => 30

/-- The tokens of a device's own cells, as minted; -/
def ownToks (c : Dev nD) : sProp 𝕄 :=
  iprop((bigSep Finset.univ fun j : Fin 62 => dutyTok ER (kcell (c, .inl j)) 0 (false, false))
    ∗ (bigSep Finset.univ fun d : Duty => dutyTok ER (barCell c) 0 d))
/-- of the units it pays. -/
def payToks (c : Dev nD) : sProp 𝕄 :=
  iprop((bigSep Finset.univ fun j : Fin 62 => dutyTok ER (kcell (near (rot j) c, .inl j)) 0 (false, false))
    ∗ (bigSep Finset.univ fun d : Duty => dutyTok ER (barCell (near (turnOf d) c)) 0 d))

/-- Each member of a family turned by its own amount. -/
def turns {J : Type} (o : J → Fin 32) : Dev nD × J ≃ Dev nD × J where
  toFun x := (near (o x.2) x.1, x.2)
  invFun x := (near (-o x.2) x.1, x.2)
  left_inv x := Prod.ext (near_back _ _) rfl
  right_inv x := Prod.ext (near_forth _ _) rfl

omit [FloatOps F] in
theorem bigSep_turns {J : Type} [Fintype J] [DecidableEq J] (o : J → Fin 32) (Φ : Dev nD → J → sProp 𝕄) :
    (bigSep Finset.univ fun c : Dev nD => bigSep Finset.univ fun j : J => Φ c j)
      = bigSep Finset.univ fun c : Dev nD => bigSep Finset.univ fun j : J => Φ (near (o j) c) j := by
  rw [← bigSep_univ_prod (fun x : Dev nD × J => Φ x.1 x.2), bigSep_univ_equiv (turns o) (fun x : Dev nD × J => Φ x.1 x.2), bigSep_univ_prod]
  rfl

omit [FloatOps F] in
/-- The tokens dealt around the ring. -/
theorem toks_around : (bigSep Finset.univ fun c : Dev nD => (ownToks c : sProp 𝕄)) = bigSep Finset.univ fun c : Dev nD => payToks c := by
  unfold ownToks payToks
  rw [bigSep_sep', bigSep_sep', bigSep_turns rot fun c j => dutyTok ER (kcell (c, .inl j)) 0 (false, false),
    bigSep_turns turnOf fun c d => dutyTok ER (barCell c) 0 d]

/-! ## What a device starts with, apart from its slots -/

def restSide (b : Bool) (c : Dev nD) : sProp 𝕄 :=
  iprop((bigSep (Finset.Ico 0 (len b)) fun k => iprop(atPos ER (cell true b k c) 0 ∅ 0 ∗ cred (tallyAt (cell true b k c) () N)))
    ∗ (bigSep (Finset.Ico 0 (len b)) fun k => iprop(dutyTok ER (cell false b k c) 0 (false, false) ∗ dutyTok ER (cell true b k (tgt b k c)) 0 (false, false)))
    ∗ (bigSep (Finset.Ico 0 (len b)) fun k => atPos ER (cell false b k c) 0 ∅ 0))

/-- A device's places at its own cells. -/
def places (c : Dev nD) : sProp 𝕄 :=
  iprop((bigSep Finset.univ fun j : Fin 62 => atPos ER (kcell (c, .inl j)) 0 ∅ 0) ∗ atPos ER (barCell c) 0 ∅ 0)

omit [FloatOps F] in
theorem places_split (c : Dev nD) : (bigSep Finset.univ fun j : Fin 62 => (atPos ER (kcell (c, .inl j)) 0 ∅ 0 : sProp 𝕄))
    = iprop((bigSep (Finset.Ico 0 (len true)) fun k => atPos ER (cell false true k c) 0 ∅ 0) ∗ (bigSep (Finset.Ico 0 (len true)) fun k => atPos ER (cell true true k c) 0 ∅ 0)
      ∗ (bigSep (Finset.Ico 0 (len false)) fun k => atPos ER (cell false false k c) 0 ∅ 0) ∗ (bigSep (Finset.Ico 0 (len false)) fun k => atPos ER (cell true false k c) 0 ∅ 0)) := by
  rw [bigSep_sems]; simp only [kcell_cellNo]

omit [FloatOps F] in
theorem toks_split (c : Dev nD) : (bigSep Finset.univ fun j : Fin 62 => (dutyTok ER (kcell (near (rot j) c, .inl j)) 0 (false, false) : sProp 𝕄))
    = iprop((bigSep (Finset.Ico 0 (len true)) fun k => dutyTok ER (cell false true k c) 0 (false, false))
      ∗ (bigSep (Finset.Ico 0 (len true)) fun k => dutyTok ER (cell true true k (tgt true k c)) 0 (false, false))
      ∗ (bigSep (Finset.Ico 0 (len false)) fun k => dutyTok ER (cell false false k c) 0 (false, false))
      ∗ (bigSep (Finset.Ico 0 (len false)) fun k => dutyTok ER (cell true false k (tgt false k c)) 0 (false, false))) := by
  have hs (b : Bool) : (bigSep (Finset.Ico 0 (len b)) fun k => (dutyTok ER (kcell (near (rot (cellNo false b k)) c, .inl (cellNo false b k))) 0 (false, false) : sProp 𝕄))
      = bigSep (Finset.Ico 0 (len b)) fun k => dutyTok ER (cell false b k c) 0 (false, false) :=
    bigSep_congr fun k hk => by rw [rot_send b k (Finset.mem_Ico.mp hk).2, near_zero, kcell_cellNo]
  have hr (b : Bool) : (bigSep (Finset.Ico 0 (len b)) fun k => (dutyTok ER (kcell (near (rot (cellNo true b k)) c, .inl (cellNo true b k))) 0 (false, false) : sProp 𝕄))
      = bigSep (Finset.Ico 0 (len b)) fun k => dutyTok ER (cell true b k (tgt b k c)) 0 (false, false) :=
    bigSep_congr fun k hk => by rw [rot_recv b k (Finset.mem_Ico.mp hk).2, kcell_cellNo]; rfl
  rw [bigSep_sems, hs, hs, hr, hr]

omit [FloatOps F] in
theorem barToks_split (c : Dev nD) : (bigSep Finset.univ fun d : Duty => (dutyTok ER (barCell (near (turnOf d) c)) 0 d : sProp 𝕄))
    = iprop(dutyTok ER (barCell (near 1 c)) 0 (false, false) ∗ dutyTok ER (barCell (near 31 c)) 0 (true, false)
      ∗ dutyTok ER (barCell (near 2 c)) 0 (false, true) ∗ dutyTok ER (barCell (near 30 c)) 0 (true, true)) := by
  rw [bigSep_univ_eq_bigSepL [(false, false), (true, false), (false, true), (true, true)] (by decide) (by decide)]; rfl

omit [FloatOps F] in
theorem sides_intro (c : Dev nD) :
    iprop(places c ∗ payToks c ∗ startCreds c) ⊢ (iprop(startBar c ∗ restSide true c ∗ restSide false c) : sProp 𝕄) := by
  unfold places payToks startCreds startBar restSide
  rw [places_split, toks_split, barToks_split]
  iintro ⟨⟨⟨Ps1, Pr1, Ps0, Pr0⟩, Pb⟩, ⟨⟨Ts1, Tr1, Ts0, Tr0⟩, Tb⟩, Cb, C1, C0⟩
  isplitl [Pb Tb Cb]
  · isplitl [Pb]; · iexact Pb
    isplitl [Cb]; · iexact Cb
    iexact Tb
  isplitl [Ps1 Pr1 Ts1 Tr1 C1]
  · isplitl [Pr1 C1]
    · iapply (pair_in _ _ _); isplitl [Pr1]; · iexact Pr1
      iexact C1
    isplitl [Ts1 Tr1]
    · iapply (pair_in _ _ _); isplitl [Ts1]; · iexact Ts1
      iexact Tr1
    iexact Ps1
  · isplitl [Pr0 C0]
    · iapply (pair_in _ _ _); isplitl [Pr0]; · iexact Pr0
      iexact C0
    isplitl [Ts0 Tr0]
    · iapply (pair_in _ _ _); isplitl [Ts0]; · iexact Ts0
      iexact Tr0
    iexact Ps0

end Cert.RingMoe

end
-- ==== Proof.Launch.lean ====
/-
The launch: the pipeline's data, its body obligation from the body's proof, the allocation of the cells, and the run.
-/
module

public import proofs.«01_k».proof.Proof.Deal
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- Before the body: places, tokens, credits and the cells' invariants; -/
def start (c : Dev nD) : sProp 𝕄 := iprop((∃ K, known m K) ∗ startBar c ∗ restSide true c ∗ restSide false c)
/-- and the kernel's own buffers with any contents. -/
def Φ₀ (c : Dev nD) : sProp 𝕄 :=
  iprop(start m c ∗ (∃ f, ownPts c fullShare f) ∗ (bigSep (Finset.Ico 0 (len true)) fun k => anySlot true k c) ∗ (bigSep (Finset.Ico 0 (len false)) fun k => anySlot false k c))
/-- After it: those buffers, and every counter at zero. -/
def Φ₁ (c : Dev nD) : sProp 𝕄 := iprop((∃ f, ownPts c fullShare f) ∗ semVal (barCell c) 0 ∗ endSide true c ∗ endSide false c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => rwAt m c
    | ⟨2, _⟩ => riAt m c
    | ⟨3, _⟩ => ewAt m c
    | ⟨4, _⟩ => outAt m c 16
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem stg_elim (c : Dev nD) (b : Ref sig .tc) (X Y : b.ty.Contents (Elt F)) (h : X = Y) :
    (stg c b X : sProp 𝕄) ⊢ (((c : Thread nD τ).loc b) ↦{fullShare} (Y : Buf (Elt F) ((c : Thread nD τ).loc b))) := by
  subst h; iintro ⟨%f, %hf, H⟩; subst hf; iexact H
omit [FloatOps F] in
theorem stg_intro (c : Dev nD) (b : Ref sig .tc) (X : b.ty.Contents (Elt F)) :
    (((c : Thread nD τ).loc b) ↦{fullShare} (X : Buf (Elt F) ((c : Thread nD τ).loc b)) : sProp 𝕄) ⊢ stg c b X := by
  iintro H; iexists X; isplitr; · (ipureintro; rfl)
  iexact H

theorem before_0 (c : Dev nD) (d) : (dats m ρ 0 c).before (0 : Fin 5) t0_0 d = xAt m c := by
  unfold Dat.before; rw [if_pos (fetch0_0 t0_0)]; rfl
theorem before_1 (c : Dev nD) (d) : (dats m ρ 0 c).before (1 : Fin 5) t0_0 d = rwAt m c := by
  unfold Dat.before; rw [if_pos (fetch0_1 t0_0)]; rfl
theorem before_2 (c : Dev nD) (d) : (dats m ρ 0 c).before (2 : Fin 5) t0_0 d = riAt m c := by
  unfold Dat.before; rw [if_pos (fetch0_2 t0_0)]; rfl
theorem before_3 (c : Dev nD) (d) : (dats m ρ 0 c).before (3 : Fin 5) t0_0 d = ewAt m c := by
  unfold Dat.before; rw [if_pos (fetch0_3 t0_0)]; rfl

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt () t0_0.succ ∗ stg c cc0_stg0_0 (xAt m c) ∗ stg c cc0_stg1_0 (rwAt m c)
    ∗ stg c cc0_stg2_0 (riAt m c) ∗ stg c cc0_stg3_0 (ewAt m c) ∗ stg c cc0_stg4_0 (outAt m c 16))

theorem owes_in (c : Dev nD) : (dats m ρ 0 c).owesAt () t0_0.castSucc ⊢ (owesAny c (O₀ c) : sProp 𝕄) := by
  unfold Dat.owesAt Pipeline.owesWithin owesAny
  rw [show (dats m ρ 0 c).owed t0_0.castSucc = O₀ c from rfl]
  iintro ⟨%W, %hW, HO⟩
  iexists W; iexact HO
theorem owes_out (c : Dev nD) : (owesAny c 0 : sProp 𝕄) ⊢ (dats m ρ 0 c).owesAt () t0_0.succ := by
  unfold Dat.owesAt Pipeline.owesWithin owesAny
  rw [show (dats m ρ 0 c).owed t0_0.succ = 0 from rfl]
  iintro ⟨%W, HO⟩
  iexists W
  isplitr; · ipureintro; exact fun _ _ => Or.inl trivial
  iexact HO

theorem body_pre (c : Dev nD) : bodyPre m ρ c ⊢ (iprop(∃ K a f, known m K ∗ startSt m c a f) : sProp 𝕄) := by
  unfold bodyPre Φ₀ start startSt inPts outPts startSide restSide
  iintro ⟨⟨⟨⟨%K, HK⟩, HB, ⟨R1, R2, R3⟩, L1, L2, L3⟩, ⟨%f, Hown⟩, HR, HL⟩, Ho, ⟨%d0, H0⟩, ⟨%d1, H1⟩, ⟨%d2, H2⟩, ⟨%d3, H3⟩, ⟨%d4, H4⟩⟩
  iexists K
  iexists ((dats m ρ 0 c).before (4 : Fin 5) t0_0 d4)
  iexists f
  isplitl [HK]; · iexact HK
  isplitl [H0 H1 H2 H3]
  · isplitl [H0]; · iapply (stg_elim c cc0_stg0_0 _ _ (before_0 m ρ c d0)); iexact H0
    isplitl [H1]; · iapply (stg_elim c cc0_stg1_0 _ _ (before_1 m ρ c d1)); iexact H1
    isplitl [H2]; · iapply (stg_elim c cc0_stg2_0 _ _ (before_2 m ρ c d2)); iexact H2
    iapply (stg_elim c cc0_stg3_0 _ _ (before_3 m ρ c d3)); iexact H3
  isplitl [H4]; · iapply (stg_elim c cc0_stg4_0 _ _ rfl); iexact H4
  isplitl [Hown]; · iexact Hown
  isplitl [Ho]; · iapply (owes_in m ρ c); iexact Ho
  isplitl [HB]; · iexact HB
  isplitl [HR R1 R2 R3]
  · isplitl [HR]; · iexact HR
    isplitl [R1]; · iexact R1
    isplitl [R2]; · iexact R2
    iexact R3
  · isplitl [HL]; · iexact HL
    isplitl [L1]; · iexact L1
    isplitl [L2]; · iexact L2
    iexact L3

theorem body_post (c : Dev nD) : endSt m c ⊢ (bodyPost m ρ c : sProp 𝕄) := by
  unfold endSt bodyPost Φ₁ inPts outPts
  iintro ⟨⟨H0, H1, H2, H3⟩, H4, Hown, HO, HB, HR, HL⟩
  isplitl [Hown HB HR HL]
  · isplitl [Hown]; · iexists _; iexact Hown
    isplitl [HB]; · iexact HB
    isplitl [HR]; · iexact HR
    iexact HL
  isplitl [HO]; · iapply (owes_out m ρ c); iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  iapply (stg_intro c cc0_stg4_0 _); iexact H4

theorem body_runs (c : Dev nD) : bodyPre m ρ c ⊢ run c (body A₀) fun _ => bodyPost m ρ c := by
  iintro H
  ihave H' := (body_pre m ρ c) $$ H
  icases H' with ⟨%K, %a, %f, HK, H'⟩
  iapply (sound_body m K c a f fun _ => bodyPost m ρ c) $$ [HK H']
  · isplitl [HK]; · iexact HK
    iexact H'
  iintro H
  iapply (body_post m ρ c); iexact H

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

set_option maxRecDepth 100000 in
/-- The pipeline's obligation for the kernel's body. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  show bodyPre m ρ c ⊢ run c (cc0_body A₀.x A₀.hx A₀.rw A₀.hrw A₀.ri A₀.hri A₀.ew A₀.hew A₀.out A₀.hout A₀.own A₀.hown A₀.bR A₀.hbR A₀.bL A₀.hbL A₀.sR A₀.rR A₀.sL A₀.rL)
    (fun _ => bodyPost m ρ c)
  rw [body_eq A₀]
  exact body_runs m ρ c

/-! ## The cells -/

theorem ownSemFacts : Pipeline.OwnSemFacts cfg0.spec ownSem := by decide +kernel

theorem share_eq (c : Dev nD) (w : Fin cfg0.W) : (dats m ρ 0 c).share w = fullShare := by unfold Dat.share; split <;> rfl

abbrev tokOf (x : Dev nD × (Fin 62 ⊕ Duty)) : GSem nD τ sig × ℕ × Duty := match x.2 with
  | .inl j => (kcell (x.1, .inl j), 0, (false, false))
  | .inr d => (barCell x.1, 0, d)
theorem tokOf_injective : Function.Injective tokOf := by
  rintro ⟨c, j | d⟩ ⟨c', j' | d'⟩ h
  · have e := kcell_injective (congrArg Prod.fst h)
    cases e; rfl
  · have e : semOf (.inl j) = SemLoc.reg barS := congrArg (fun x : GSem nD τ sig × ℕ × Duty => x.1.2) h
    cases e
  · have e : SemLoc.reg barS = semOf (.inl j') := congrArg (fun x : GSem nD τ sig × ℕ × Duty => x.1.2) h
    cases e
  · have e1 : c = c' := congrArg (fun x : GSem nD τ sig × ℕ × Duty => x.1.1.1) h
    have e2 : d = d' := congrArg (fun x : GSem nD τ sig × ℕ × Duty => x.2.2) h
    rw [e1, e2]
def ringToks : Finset (GSem nD τ sig × ℕ × Duty) := Finset.univ.map ⟨tokOf, tokOf_injective⟩

def u₀ : UU := (initOf (Pipeline.cells cfgs cellOf_inj) (Pipeline.launchToks cfgs cellOf_inj), initOf ringCells ringToks)

/-- What the launch element gives a device; -/
def G (c : Dev nD) : sProp 𝕄 :=
  iprop((bigSep Finset.univ fun j : CellIx => roundState ER (sched m) (kcell (c, j)) 0) ∗ (bigSep Finset.univ fun j : CellIx => atPos ER (kcell (c, j)) 0 ∅ 0)
    ∗ (bigSep Finset.univ fun j : CellIx => reached ER (kcell (c, j)) 0) ∗ ownToks c)
/-- what is made of it once the cells are allocated. -/
def G' (c : Dev nD) : sProp 𝕄 := iprop((∃ K, records m K) ∗ places c ∗ payToks c)

omit [FloatOps F] in
theorem bigSep_cells (Φ : GSem nD τ sig → sProp 𝕄) : bigSep ringCells Φ = bigSep Finset.univ fun c : Dev nD => bigSep Finset.univ fun j : CellIx => Φ (kcell (c, j)) := by
  unfold ringCells; rw [bigSep_map, bigSep_univ_prod]; rfl

omit [FloatOps F] in
theorem bigSep_unit (Φ : Unit → sProp 𝕄) : bigSep Finset.univ Φ = Φ () := by
  rw [bigSep_univ_eq_bigSepL [()] (by decide) (by decide)]; rfl

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep_univ_sum]; rfl
  iintro HX
  imod (Rounds.fund ER (sched m) ringCells ringToks) $$ HX with ⟨Hst, Hr, Hat, Htok⟩
  imodintro
  ihave Hst' := (Entails.of_eq (bigSep_cells fun g => roundState ER (sched m) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

abbrev ownSems (c : Dev nD) : sProp 𝕄 := Pipeline.ownSems0 (Ix := Unit) (Name := ℕ) (U := UU) (Lvl := ℕ) (Val := Elt F) (τ := τ) ownSem c

omit [FloatOps F] in
theorem sems0_eq (c : Dev nD) : (iprop(ownSems c ∗ unscopedSems0 c) : sProp 𝕄) = bigSep Finset.univ fun j : CellIx => semVal (kcell (c, j)) 0 := by
  rw [unscopedSems0_eq, bigSep_univ_sum, bigSep_unit]; rfl

theorem core_alloc (c : Dev nD) :
    (iprop(ownSems c ∗ unscopedSems0 c ∗ G m c) : sProp 𝕄)
      ⊢ |={Set.univ}=> iprop((bigSep Finset.univ fun j : CellIx => iprop(∃ κ : ℕ, cellInv ER (sched m) κ (kcell (c, j))))
          ∗ (bigSep Finset.univ fun j : CellIx => atPos ER (kcell (c, j)) 0 ∅ 0) ∗ (bigSep Finset.univ fun j : CellIx => reached ER (kcell (c, j)) 0) ∗ ownToks c) := by
  unfold G
  iintro ⟨Hos, Hus, Hst, Hat, Hr, Htok⟩
  ihave Hv := (Entails.of_eq (sems0_eq (F := F) c)) $$ [Hos Hus]
  · isplitl [Hos] <;> iassumption
  imod (show iprop((bigSep Finset.univ fun j : CellIx => semVal (kcell (c, j)) 0) ∗ bigSep Finset.univ fun j : CellIx => roundState ER (sched m) (kcell (c, j)) 0)
      ⊢ (|={Set.univ}=> bigSep Finset.univ fun j : CellIx => iprop(∃ κ : ℕ, cellInv ER (sched m) κ (kcell (c, j))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

theorem places_of (c : Dev nD) : (bigSep Finset.univ fun j : CellIx => (atPos ER (kcell (c, j)) 0 ∅ 0 : sProp 𝕄)) = places c := by
  rw [bigSep_univ_sum, bigSep_unit]; rfl

omit [FloatOps F] in
theorem with_persistent {I : Type} [DecidableEq I] {S : Finset I} {R : sProp 𝕄} [BI.Persistent R] (Φ : I → sProp 𝕄) :
    iprop(R ∗ bigSep S Φ) ⊢ bigSep S fun i => iprop(R ∗ Φ i) :=
  (sep_mono_left (BI.bigSep_of_persistent S R)).trans (Entails.of_eq (bigSep_sep' S (fun _ => R) Φ).symm)

theorem regroup :
    (bigSep Finset.univ fun c : Dev nD => iprop((bigSep Finset.univ fun j : CellIx => iprop(∃ κ : ℕ, cellInv ER (sched m) κ (kcell (c, j))))
          ∗ (bigSep Finset.univ fun j : CellIx => atPos ER (kcell (c, j)) 0 ∅ 0) ∗ (bigSep Finset.univ fun j : CellIx => reached ER (kcell (c, j)) 0) ∗ ownToks c) : sProp 𝕄)
      ⊢ bigSep Finset.univ (G' m) := by
  rw [bigSep_sep', bigSep_sep', bigSep_sep', ← bigSep_cells (fun g => iprop(∃ κ : ℕ, cellInv ER (sched m) κ g)), ← bigSep_cells (fun g => reached ER g 0), toks_around]
  iintro ⟨HI, Hat, #HR, Htok⟩
  ihave HK := (BI.bigSep_exists_pi ringCells (fun (g : GSem nD τ sig) (κ : ℕ) => (cellInv ER (sched m) κ g : sProp 𝕄))) $$ HI
  icases HK with ⟨%K, #HI⟩
  ihave HRec := (show iprop((bigSep ringCells fun g => cellInv ER (sched m) (K g) g) ∗ bigSep ringCells fun g => reached ER g 0) ⊢ (iprop(∃ K, records m K) : sProp 𝕄) from by
    rw [← bigSep_sep']; iintro H; iexists K; unfold records; iexact H) $$ []
  · isplitl; · iexact HI
    iexact HR
  haveI : BI.Persistent (iprop(∃ K, records m K) : sProp 𝕄) := inferInstance
  iapply (show iprop((∃ K, records m K) ∗ bigSep Finset.univ fun c : Dev nD => iprop(places c ∗ payToks c)) ⊢ (bigSep Finset.univ (G' m) : sProp 𝕄) from with_persistent _)
  isplitl [HRec]; · iexact HRec
  iapply (Entails.of_eq (bigSep_sep' Finset.univ (fun c : Dev nD => (places c : sProp 𝕄)) payToks).symm)
  isplitl [Hat]
  · iapply (Entails.of_eq (bigSep_congr fun (c : Dev nD) _ => places_of (F := F) c)); iexact Hat
  iexact Htok

theorem glob : (bigSep Finset.univ fun c => iprop(ownSems c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## In and out of the body -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  unfold G' start known
  iintro ⟨-, Hlev, Hcr, -, ⟨%K, HK⟩, Hp, Ht⟩
  ihave Hc := (creds (F := F) c) $$ Hcr
  ihave Hs := (sides_intro (F := F) c) $$ [Hp Ht Hc]
  · isplitl [Hp]; · iexact Hp
    isplitl [Ht]; · iexact Ht
    iexact Hc
  imodintro
  isplitl
  · isplitl [HK Hlev]
    · iexists K
      isplitl [HK]; · iexact HK
      iexact Hlev
    iexact Hs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = _ from scopedRest0_eq c]
  unfold Φ₀
  iintro ⟨Hs, -, ⟨%f, Ho⟩, HR, HL⟩
  isplitl [Hs]; · iexact Hs
  isplitl [Ho]
  · iexists f
    iapply (Entails.of_eq (ownPts_eq (F := F) c f).symm); iexact Ho
  isplitl [HR]
  · iapply (cutR (F := F) c); iexact HR
  · iapply (cutL (F := F) c); iexact HL

omit [FloatOps F] in
theorem ownSems_of (c : Dev nD) :
    iprop((bigSep (Finset.Ico 0 (len true)) fun k => semVal (cell false true k c) 0) ∗ (bigSep (Finset.Ico 0 (len true)) fun k => semVal (cell true true k c) 0)
      ∗ (bigSep (Finset.Ico 0 (len false)) fun k => semVal (cell false false k c) 0) ∗ (bigSep (Finset.Ico 0 (len false)) fun k => semVal (cell true false k c) 0))
    ⊢ (ownSems c : sProp 𝕄) := by
  refine Entails.of_eq (Eq.symm ?_)
  refine (bigSep_sems fun j : Fin 62 => (semVal (kcell (c, .inl j)) 0 : sProp 𝕄)).trans ?_
  simp only [kcell_cellNo]

theorem phi1_exit (c : Dev nD) :
    (dats m ρ 0 c).Φ (Fin.last cfg0.N) ⊢ (iprop(unscopedSems0 c ∗ ownSems c ∗ Pipeline.scopedRest cfg0.spec c) : sProp 𝕄) := by
  rw [show (dats m ρ 0 c).Φ (Fin.last cfg0.N) = Φ₁ c from rfl, show (Pipeline.scopedRest cfg0.spec c : sProp 𝕄) = _ from scopedRest0_eq c, unscopedSems0_eq]
  unfold Φ₁ endSide
  iintro ⟨⟨%f, Ho⟩, HB, ⟨HR, R1, R2⟩, HL, L1, L2⟩
  isplitl [HB]; · iexact HB
  isplitl [R1 R2 L1 L2]
  · iapply (ownSems_of (F := F) c)
    isplitl [R2]; · iexact R2
    isplitl [R1]; · iexact R1
    isplitl [L2]; · iexact L2
    iexact L1
  isplitl [Ho]
  · iexists f
    iapply (Entails.of_eq (ownPts_eq (F := F) c f)); iexact Ho
  isplitl [HR]
  · iapply (pasteR (F := F) c); iexact HR
  · iapply (pasteL (F := F) c); iexact HL

omit [FloatOps F] in
theorem mayWait_stage (c : Dev nD) (sm : SemLoc sig) (h : level (useOf sm) = 0) (O : CellTallies nD τ sig Unit) (hO : O = O₀ c ∨ O = 0) :
    (levAts L lv : sProp 𝕄) ⊢ MayWait (c : Thread nD τ) sm () O :=
  mayWait c sm O 0 (Nat.le_of_eq h) (by rcases hO with rfl | rfl; · exact above_O₀ c
                                        · exact above_zero 1)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the ring of thirty-two devices, for any float values and from any memory with zero counters: every fair execution ends,
    each device's arrays then hold `finalA` and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds after the run what it held. -/
theorem finalA_in (c : Dev nD) (w : Fin cfg0.W) (h : (cfg0.win w).isOut = false) : finalA m ρ c w = m ((cfg0.win w).arr.view.loc (c : Thread nD τ)) :=
  (dats (F := F) m ρ 0 c).arrAt_in w h _

end Cert.RingMoe

end
-- ==== Proof.Frames.lean ====
/-
The claims that the programs run, leave their arguments as they were and end with every counter at zero. The kernel's are the
ring's run (Launch.lean) at bits and at ideal values; the reference's is its straight line of host operations.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.StableHlo.Run

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- What the run leaves in the four argument arrays of a device is what they held. -/
theorem args_kept {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h c 0).trans (finalA_in m ρ c 0 rfl), (h c 1).trans (finalA_in m ρ c 1 rfl),
    (h c 2).trans (finalA_in m ρ c 2 rfl), (h c 3).trans (finalA_in m ρ c 3 rfl)⟩

/-- The run read at the arguments and the counters. -/
theorem run_kept : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run Cert.KernelIdeal.defs _ _).mono (fun _ h => ⟨args_kept m ρ h.1, h.2⟩) (run_main (F := F) m ρ)

theorem frame_kernelIdeal : Cert.quiescent_KernelIdeal := fun m ρ _ => run_kept (F := Ideal) m ρ

set_option maxRecDepth 100000 in
/-- The two printed programs call the same text: at every label, the one body. -/
theorem bodies_same : (Cert.Kernel.defs₀ (F := F)) = Cert.KernelIdeal.defs₀ (F := F) := by
  unfold Cert.Kernel.defs₀ Cert.KernelIdeal.defs₀
  refine congrArg Defs.onTc (funext fun l => funext fun x => ?_)
  obtain ⟨l, hl⟩ := l
  rcases l with _ | l
  · rfl
  · exact absurd hl (Nat.not_lt.2 (Nat.le_add_left _ _))

theorem defs_same : (Cert.Kernel.defs (F := F)) = Cert.KernelIdeal.defs (F := F) :=
  congrArg (Pipeline.defs (Cert.KernelIdeal.pcfgs (F := F))) (bodies_same (F := F))

theorem frame_kernel : Cert.quiescent_Kernel := fun m ρ _ => by
  have h := run_kept (F := Bits) m ρ
  rw [← defs_same] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingMoe

end
-- ==== Proof.Plain.lean ====
/-
The plain mathematics of one token. Its scores are the products of its row with the router's columns, its probabilities
their softmax, and two of them divided by their sum are its weights. Here: of finite numbers all of these are positive
reals; and a sum over all the experts, each under the weight of the token's two choices that name it, is the weighted
sum of the two chosen experts. An expert's own values may be infinite.
-/
module

public import Idealize.ShloMosaic.PureOps
public import Idealize.ShloMosaic.Lib.Pointwise

@[expose] public section

noncomputable section

namespace Cert.RingMoe

open Idealize.ShloMosaic

/-! ## Finite numbers -/

/-- A real number among the extended ones, and a positive one. -/
def IsReal (a : EReal) : Prop := ∃ r : ℝ, a = r
def IsPos (a : EReal) : Prop := ∃ r : ℝ, 0 < r ∧ a = r

theorem IsPos.nonneg {a : EReal} (h : IsPos a) : 0 ≤ a := by
  obtain ⟨r, hr, rfl⟩ := h; exact_mod_cast hr.le
theorem IsPos.ne_top {a : EReal} (h : IsPos a) : a ≠ ⊤ := by
  obtain ⟨r, hr, rfl⟩ := h; exact EReal.coe_ne_top r

theorem isReal_add {a b : EReal} : IsReal a → IsReal b → IsReal (a + b)
  | ⟨r, hr⟩, ⟨s, hs⟩ => ⟨r + s, by rw [hr, hs, EReal.coe_add]⟩
theorem isReal_mul {a b : EReal} : IsReal a → IsReal b → IsReal (a * b)
  | ⟨r, hr⟩, ⟨s, hs⟩ => ⟨r * s, by rw [hr, hs, EReal.coe_mul]⟩
theorem isReal_sum {ι : Type} (s : Finset ι) (f : ι → EReal) (h : ∀ i, IsReal (f i)) : IsReal (∑ i ∈ s, f i) := by
  classical
  induction s using Finset.induction_on with
  | empty => exact ⟨0, by simp⟩
  | insert i s hi ih => rw [Finset.sum_insert hi]; exact isReal_add (h i) ih

theorem isPos_add {a b : EReal} : IsPos a → IsPos b → IsPos (a + b)
  | ⟨r, hr, ha⟩, ⟨s, hs, hb⟩ => ⟨r + s, add_pos hr hs, by rw [ha, hb, EReal.coe_add]⟩
/-- A sum of positive numbers, of which there is one. -/
theorem isPos_sum {ι : Type} [Fintype ι] [Nonempty ι] (f : ι → EReal) (h : ∀ i, IsPos (f i)) : IsPos (∑ i, f i) := by
  choose r hr hf using h
  refine ⟨∑ i, r i, Finset.sum_pos (fun i _ => hr i) Finset.univ_nonempty, ?_⟩
  rw [Finset.sum_congr rfl fun i _ => hf i]
  exact (map_sum (⟨⟨Real.toEReal, EReal.coe_zero⟩, EReal.coe_add⟩ : ℝ →+ EReal) r Finset.univ).symm
theorem isPos_div {a b : EReal} : IsPos a → IsPos b → IsPos (Ideal.div a b)
  | ⟨r, hr, ha⟩, ⟨s, hs, hb⟩ => ⟨r * s⁻¹, mul_pos hr (inv_pos.2 hs), by
      have h0 : (s : EReal) ≠ 0 := by exact_mod_cast hs.ne'
      rw [ha, hb, Ideal.div, if_neg h0, EReal.coe_mul, EReal.coe_inv]⟩
theorem isPos_exp {a : EReal} : IsReal a → IsPos (Ideal.exp a)
  | ⟨r, hr⟩ => ⟨Real.exp r, Real.exp_pos r, by rw [hr, Ideal.exp_coe]⟩

/-- The largest of finitely many reals, taken from a number below them all, is a real. -/
theorem isReal_fold {ι : Type} [Fintype ι] [Nonempty ι] (f : ι → EReal) (h : ∀ i, IsReal (f i)) :
    IsReal (Finset.univ.fold max ⊥ f) := by
  classical
  have key (s : Finset ι) : s.fold max ⊥ f = ⊥ ∧ s = ∅ ∨ IsReal (s.fold max ⊥ f) := by
    induction s using Finset.induction_on with
    | empty => exact .inl ⟨by simp, rfl⟩
    | insert i s hi ih =>
      refine .inr ?_
      rw [Finset.fold_insert hi]
      rcases ih with ⟨hb, _⟩ | ih
      · rw [hb, max_eq_left bot_le]; exact h i
      · rcases max_choice (f i) (s.fold max ⊥ f) with e | e <;> rw [e]
        · exact h i
        · exact ih
  rcases key Finset.univ with ⟨_, hs⟩ | h
  · exact absurd hs Finset.univ_nonempty.ne_empty
  · exact h

/-! ## A token's scores, probabilities and weights -/

/-- The number the largest score is taken from: minus infinity. -/
abbrev floor32 : EReal := Ideal.ofBits .f32 4286578688#32

theorem floor32_eq : floor32 = ⊥ := by
  unfold floor32; simp [Ideal.ofBits, Ideal.ieee]

def score (x : Fin 128 → EReal) (R : Fin 128 → Fin 64 → EReal) (e : Fin 64) : EReal := ∑ i, x i * R i e
def top (x : Fin 128 → EReal) (R : Fin 128 → Fin 64 → EReal) : EReal := Finset.univ.fold max floor32 (score x R)
def raised (x : Fin 128 → EReal) (R : Fin 128 → Fin 64 → EReal) (e : Fin 64) : EReal := Ideal.exp (score x R e - top x R)
def soft (x : Fin 128 → EReal) (R : Fin 128 → Fin 64 → EReal) (e : Fin 64) : EReal :=
  Ideal.div (raised x R e) (∑ e', raised x R e')
/-- The weight of the choice `a` of a token that chose `a` and `b`. -/
def weight (x : Fin 128 → EReal) (R : Fin 128 → Fin 64 → EReal) (s a b : Fin 64) : EReal :=
  Ideal.div (soft x R s) (soft x R a + soft x R b)

section
variable {x : Fin 128 → EReal} {R : Fin 128 → Fin 64 → EReal} (hx : ∀ i, IsReal (x i)) (hR : ∀ i e, IsReal (R i e))
include hx hR

theorem isReal_score (e : Fin 64) : IsReal (score x R e) := isReal_sum _ _ fun i => isReal_mul (hx i) (hR i e)
theorem isReal_top : IsReal (top x R) := by
  unfold top; rw [floor32_eq]; exact isReal_fold _ (isReal_score hx hR)
theorem isPos_raised (e : Fin 64) : IsPos (raised x R e) := by
  obtain ⟨r, hr⟩ := isReal_score hx hR e
  obtain ⟨s, hs⟩ := isReal_top hx hR
  exact isPos_exp ⟨r - s, by rw [hr, hs, EReal.coe_sub]⟩
theorem isPos_soft (e : Fin 64) : IsPos (soft x R e) := isPos_div (isPos_raised hx hR e) (isPos_sum _ (isPos_raised hx hR))
theorem isPos_weight (s a b : Fin 64) : IsPos (weight x R s a b) :=
  isPos_div (isPos_soft hx hR s) (isPos_add (isPos_soft hx hR a) (isPos_soft hx hR b))
end

/-! ## All the experts under the weights of the two chosen -/

/-- A finite weight goes through a sum of any numbers. -/
theorem mul_sum_finite {ι : Type} (s : Finset ι) (w : EReal) (h0 : 0 ≤ w) (ht : w ≠ ⊤) (f : ι → EReal) :
    ∑ i ∈ s, w * f i = w * ∑ i ∈ s, f i := by
  classical
  induction s using Finset.induction_on with
  | empty => simp
  | insert i s hi ih => rw [Finset.sum_insert hi, Finset.sum_insert hi, ih, EReal.left_distrib_of_nonneg_of_ne_top h0 ht]

/-- One where a choice names the expert, zero elsewhere. -/
def named (a e : Fin 64) : EReal := if a = e then 1 else 0
theorem named_nonneg (a e : Fin 64) : 0 ≤ named a e := by unfold named; split <;> simp

/-- The weight of expert `e` at a token that chose `a` and `b`. -/
def share (u v : EReal) (a b e : Fin 64) : EReal := u * named a e + v * named b e

section
variable {u v : EReal} (hu : IsPos u) (hv : IsPos v) (a b : Fin 64)
include hu hv

theorem share_nonneg (e : Fin 64) : 0 ≤ share u v a b e :=
  add_nonneg (mul_nonneg hu.nonneg (named_nonneg a e)) (mul_nonneg hv.nonneg (named_nonneg b e))
theorem share_ne_top (e : Fin 64) : share u v a b e ≠ ⊤ := by
  obtain ⟨r, _, rfl⟩ := hu
  obtain ⟨s, _, rfl⟩ := hv
  unfold share named
  split <;> split <;> simp [← EReal.coe_add]

/-- One chosen expert, read out of the sum over all. -/
theorem sum_named (w : EReal) (c : Fin 64) (y : Fin 64 → EReal) : ∑ e, w * named c e * y e = w * y c := by
  rw [Finset.sum_eq_single c (fun e _ he => by rw [named, if_neg (Ne.symm he), mul_zero, zero_mul]) (fun h => absurd (Finset.mem_univ c) h),
    named, if_pos rfl, mul_one]

theorem sum_share (y : Fin 64 → EReal) : ∑ e, share u v a b e * y e = u * y a + v * y b := by
  rw [← sum_named hu hv u a y, ← sum_named hu hv v b y, ← Finset.sum_add_distrib]
  exact Finset.sum_congr rfl fun e _ =>
    EReal.right_distrib_of_nonneg (mul_nonneg hu.nonneg (named_nonneg a e)) (mul_nonneg hv.nonneg (named_nonneg b e))

/-- The two halves of a device's wide product, each the tokens under the weight of one of its experts. -/
theorem sum_expert (e : Fin 64) (x w : Fin 128 → EReal) :
    ∑ i, x i * share u v a b e * w i = share u v a b e * ∑ i, x i * w i := by
  rw [← mul_sum_finite Finset.univ _ (share_nonneg hu hv a b e) (share_ne_top hu hv a b e)]
  exact Finset.sum_congr rfl fun i _ => by rw [mul_comm (x i), mul_assoc]
end

/-- Expert `j` of device `d`. -/
def expert (d : Fin 32) (j : Fin 2) : Fin 64 := finProdFinEquiv (d, j)
theorem expert_val (d : Fin 32) (j : Fin 2) : (expert d j).val = 2 * d.val + j.val := by
  show j.val + 2 * d.val = _; omega

/-- What the two experts of device `d` add to a token: one product over twice the token's width. -/
def part (s : Fin 64 → EReal) (x : Fin 128 → EReal) (W : Fin 64 → Fin 128 → EReal) (d : Fin 32) : EReal :=
  ∑ j : Fin 2, ∑ i : Fin 128, x i * s (expert d j) * W (expert d j) i

/-- The sum over the devices is the weighted sum of the two chosen experts. -/
theorem sum_parts {u v : EReal} (hu : IsPos u) (hv : IsPos v) (a b : Fin 64) (x : Fin 128 → EReal) (W : Fin 64 → Fin 128 → EReal) :
    ∑ d, part (share u v a b) x W d = u * ∑ i, x i * W a i + v * ∑ i, x i * W b i := by
  rw [← sum_share hu hv a b (fun e => ∑ i, x i * W e i), ← Equiv.sum_comp (finProdFinEquiv (m := 32) (n := 2)), Fintype.sum_prod_type]
  exact Finset.sum_congr rfl fun d _ => Finset.sum_congr rfl fun j _ => sum_expert hu hv a b (expert d j) x (W (expert d j))

/-- A sum over twice the width is the sum over the two halves. -/
theorem sum_halves (f : Fin 2 → Fin 128 → EReal) :
    ∑ k : Fin 256, f ⟨k.val / 128, Nat.div_lt_of_lt_mul k.isLt⟩ ⟨k.val % 128, Nat.mod_lt _ (by decide)⟩ = ∑ j, ∑ i, f j i := by
  rw [← (finProdFinEquiv (m := 2) (n := 128)).sum_comp, Fintype.sum_prod_type]
  refine Finset.sum_congr rfl fun j _ => Finset.sum_congr rfl fun i _ => ?_
  congr 1 <;> refine Fin.ext ?_
  · show (i.val + 128 * j.val) / 128 = j.val; omega
  · show (i.val + 128 * j.val) % 128 = i.val; omega

end Cert.RingMoe

end
-- ==== Proof.Rows.lean ====
/-
What the kernel's values are, one number at a time, over the extended reals: a token's probabilities are the softmax of
its scores, its two picked numbers those of its choices, and what a device's block adds to it is that device's part of
the sum over all the experts.
-/
module

public import proofs.«01_k».proof.Proof.Plain
public import proofs.«01_k».proof.Proof.Ring
public import Idealize.ShloMosaic.Lib.Pointwise

@[expose] public section

noncomputable section

namespace Cert.RingMoe

open Cert.KernelIdeal Cert.KernelIdeal.Gen
open Idealize.ShloMosaic

/-! ## Choices as words -/

/-- The word of an expert's number. -/
def expertWord (e : Fin 64) : BitVec 32 := BitVec.ofNat 32 e.val

theorem expertWord_inj : ∀ a b : Fin 64, expertWord a = expertWord b → a = b := fun a b h => Fin.ext (by
  have := congrArg BitVec.toNat h
  simpa [expertWord, Nat.mod_eq_of_lt (show a.val < 4294967296 by omega), Nat.mod_eq_of_lt (show b.val < 4294967296 by omega)] using this)

/-- The kernel's two words for a device's experts. -/
theorem word_first : ∀ d : Dev nD, Scalar.muli (devWord d) 2#32 = expertWord (expert d 0) := by decide
theorem word_second : ∀ d : Dev nD, Scalar.addi (Scalar.muli (devWord d) 2#32) 1#32 = expertWord (expert d 1) := by decide

/-- A comparison of two experts' words, and it as a number. -/
theorem cmpi_word (a e : Fin 64) : IntOp.cmpi .eq (expertWord a) (expertWord e) = if a = e then 1#1 else 0#1 := by
  split
  · rename_i h; subst h; simp [IntOp.cmpi]
  · rename_i h
    have : (expertWord a == expertWord e) = false := beq_eq_false_iff_ne.2 fun hw => h (expertWord_inj _ _ hw)
    simp [IntOp.cmpi, this]
theorem sitofp_named (a e : Fin 64) :
    (FloatOps.sitofp .f32 (BitVec.setWidth 32 (IntOp.cmpi .eq (expertWord a) (expertWord e))) : Ideal .f32) = named a e := by
  rw [cmpi_word]
  unfold named
  split <;> simp [FloatOps.sitofp]

/-! ## A token's row -/

theorem probs_at (x : Vec Ideal S256x128 .f32) (rw : Vec Ideal S128x64 .f32) (t : Fin 256) (e : Fin 64) :
    probs (F := Ideal) x rw (ix2 t e) = soft (fun i => x (ix2 t i)) (fun i e => rw (ix2 i e)) e := by
  pointwise [probs]
  rfl

theorem pick_at (p : FVec Ideal S256x64 .f32) (v : IVec S256x1 32) (t : Fin 256) (a : Fin 64) (h : v (ix2 t 0) = expertWord a) :
    pick (F := Ideal) p v (ix2 t 0) = p (ix2 t a) := by
  pointwise [pick]
  rw [h]
  show ∑ k : Fin 64, Scalar.select (IntOp.cmpi .eq (expertWord k) (expertWord a)) (p (ix2 t k)) 0 = _
  simp only [cmpi_word]
  rw [Finset.sum_eq_single a]
  · simp [Scalar.select]
  · intro k _ hk
    simp [Scalar.select, hk]
  · intro h; exact absurd (Finset.mem_univ a) h

section
variable (x : Vec Ideal S256x128 .f32) (rw : Vec Ideal S128x64 .f32) (i0 i1 : Vec Ideal S256x1 .i32) (t : Fin 256) (a b : Fin 64)
  (h0 : i0 (ix2 t 0) = expertWord a) (h1 : i1 (ix2 t 0) = expertWord b)
include h0 h1

theorem w0_at : (toksOf (F := Ideal) x rw i0 i1).w0 (ix2 t 0) = weight (fun i => x (ix2 t i)) (fun i e => rw (ix2 i e)) a a b := by
  have e0 : ids (F := Ideal) i0 (ix2 t 0) = expertWord a := by pointwise [ids]; exact h0
  have e1 : ids (F := Ideal) i1 (ix2 t 0) = expertWord b := by pointwise [ids]; exact h1
  unfold weight
  rw [← probs_at, ← probs_at, ← pick_at (probs x rw) _ _ _ e0, ← pick_at (probs x rw) _ _ _ e1]
  rfl
theorem w1_at : (toksOf (F := Ideal) x rw i0 i1).w1 (ix2 t 0) = weight (fun i => x (ix2 t i)) (fun i e => rw (ix2 i e)) b a b := by
  have e0 : ids (F := Ideal) i0 (ix2 t 0) = expertWord a := by pointwise [ids]; exact h0
  have e1 : ids (F := Ideal) i1 (ix2 t 0) = expertWord b := by pointwise [ids]; exact h1
  unfold weight
  rw [← probs_at, ← probs_at, ← pick_at (probs x rw) _ _ _ e0, ← pick_at (probs x rw) _ _ _ e1]
  rfl
theorem e0_at : (toksOf (F := Ideal) x rw i0 i1).e0 (ix2 t 0) = expertWord a := by
  show ids (F := Ideal) i0 (ix2 t 0) = _
  pointwise [ids]; exact h0
theorem e1_at : (toksOf (F := Ideal) x rw i0 i1).e1 (ix2 t 0) = expertWord b := by
  show ids (F := Ideal) i1 (ix2 t 0) = _
  pointwise [ids]; exact h1
end

theorem xb_at (x : Vec Ideal S256x128 .f32) (rw : Vec Ideal S128x64 .f32) (i0 i1 : Vec Ideal S256x1 .i32) (t : Fin 256) (i : Fin 128) :
    (toksOf (F := Ideal) x rw i0 i1).xb (ix2 t i) = x (ix2 t i) := by
  show (truncf .bf16 (shapeCast S256x128 x shapeCasts_S256x128_S256x128 : FVec Ideal S256x128 .f32) bitsLt_bf16_f32) (ix2 t i) = _
  pointwise

/-! ## A device's part -/

section
variable (T : Toks Ideal) (t : Fin 256) (a b : Fin 64) (h0 : T.e0 (ix2 t 0) = expertWord a) (h1 : T.e1 (ix2 t 0) = expertWord b)
include h0 h1

theorem maskOf_at (e : Fin 64) : maskOf (F := Ideal) T (expertWord e) (ix2 t 0) = share (T.w0 (ix2 t 0)) (T.w1 (ix2 t 0)) a b e := by
  pointwise [maskOf]
  rw [h0, h1, sitofp_named, sitofp_named]
  rfl

/-- A wide token is the token twice, each time under the weight of one of the device's experts. -/
theorem wideToks_at (d : Dev nD) (k : Fin 256) : wideToks (F := Ideal) T (devWord d) (ix2 t k)
    = T.xb (ix2 t ⟨k.val % 128, Nat.mod_lt _ (by decide)⟩)
      * share (T.w0 (ix2 t 0)) (T.w1 (ix2 t 0)) a b (expert d ⟨k.val / 128, Nat.div_lt_of_lt_mul k.isLt⟩) := by
  pointwise [wideToks]
  rw [word_second, word_first, maskOf_at T t a b h0 h1, maskOf_at T t a b h0 h1]
  have hk := k.isLt
  split
  · rename_i h
    have e1 : (⟨k.val / 128, Nat.div_lt_of_lt_mul k.isLt⟩ : Fin 2) = 0 := Fin.ext (by show k.val / 128 = 0; omega)
    have e2 : (⟨k.val % 128, Nat.mod_lt _ (by decide)⟩ : Fin 128) = ⟨k.val, h⟩ := Fin.ext (Nat.mod_eq_of_lt h)
    rw [e1, e2]
  · rename_i h
    have e1 : (⟨k.val / 128, Nat.div_lt_of_lt_mul k.isLt⟩ : Fin 2) = 1 := Fin.ext (by show k.val / 128 = 1; omega)
    have e2 : (⟨k.val % 128, Nat.mod_lt _ (by decide)⟩ : Fin 128) = ⟨k.val - 128, by omega⟩ := Fin.ext (by show k.val % 128 = k.val - 128; omega)
    rw [e1, e2]

theorem contrib_at (d : Dev nD) (w : Vec Ideal S2x128x256 .bf16) (W : Fin 64 → Fin 128 → EReal) (r : Fin 256)
    (hw : ∀ j i, w (ix3 j i r) = W (expert d j) i) :
    contrib (F := Ideal) T (devWord d) w (ix2 t r) = part (share (T.w0 (ix2 t 0)) (T.w1 (ix2 t 0)) a b) (fun i => T.xb (ix2 t i)) W d := by
  pointwise [contrib]
  unfold part
  rw [← sum_halves fun j i => T.xb (ix2 t i) * share (T.w0 (ix2 t 0)) (T.w1 (ix2 t 0)) a b (expert d j) * W (expert d j) i]
  refine Finset.sum_congr rfl fun k _ => ?_
  rw [wideToks_at T t a b h0 h1, hw]
end

theorem narrow_at (w : Vec Ideal S2x128x256 .f32) (j : Fin 2) (i : Fin 128) (r : Fin 256) : narrow (F := Ideal) w (ix3 j i r) = w (ix3 j i r) := by
  pointwise [narrow]

/-! ## The ring's turns reach every device -/

/-- The places at most `k` from a device. -/
def within (k : ℕ) : Finset (Fin 32) := Finset.univ.filter fun p => p.val ≤ k ∨ 32 ≤ p.val + k

theorem within_zero : within 0 = {0} := by decide
theorem within_next : ∀ k : Fin 15, far true k.val ∉ within k.val ∧ far false k.val ∉ insert (far true k.val) (within k.val)
    ∧ within (k.val + 1) = insert (far false k.val) (insert (far true k.val) (within k.val)) := by decide
theorem within_last : far true 15 ∉ within 15 ∧ Finset.univ = insert (far true 15) (within 15) := by decide

/-- What has been added up before hop `k`, of a number for each device. -/
def added (f : Dev nD → EReal) (c : Dev nD) : ℕ → EReal
  | 0 => f c
  | k + 1 => if k < 15 then added f c k + f (origin true k c) + f (origin false k c) else added f c k + f (origin true k c)

theorem added_within (f : Dev nD → EReal) (c : Dev nD) : ∀ k : ℕ, k ≤ 15 → added f c k = ∑ p ∈ within k, f (near p c)
  | 0, _ => by rw [within_zero, Finset.sum_singleton, near_zero]; rfl
  | k + 1, hk => by
    obtain ⟨h1, h2, h3⟩ := within_next ⟨k, hk⟩
    rw [h3, Finset.sum_insert h2, Finset.sum_insert h1, ← added_within f c k (by omega), added, if_pos (by omega : k < 15)]
    unfold origin
    rw [add_comm, add_comm (added f c k)]

/-- All thirty-two hops add every device's number once. -/
theorem added_all (f : Dev nD → EReal) (c : Dev nD) : added f c 16 = ∑ d, f d := by
  have h : added f c 16 = ∑ p : Fin 32, f (near p c) := by
    rw [within_last.2, Finset.sum_insert within_last.1, ← added_within f c 15 (le_refl _), added, if_neg (by omega), add_comm]
    rfl
  rw [h]
  refine Finset.sum_bij (fun p _ => near p c) (fun _ _ => Finset.mem_univ _) (fun p _ q _ e => ?_) (fun d _ => ⟨inv d - inv c, Finset.mem_univ _, ?_⟩) (fun _ _ => rfl)
  · have := congrArg inv e
    unfold near at this
    rw [inv_perm, inv_perm] at this
    exact add_left_cancel this
  · show perm (inv c + (inv d - inv c)) = d
    rw [add_sub_cancel, perm_inv]

end Cert.RingMoe

end
-- ==== Proof.Result.lean ====
/-
What a run of the kernel leaves in a device's result buffer, one number at a time: each token's weighted sum of its two
chosen experts, the experts read from the devices that hold them.
-/
module

public import proofs.«01_k».proof.Proof.Rows
public import proofs.«01_k».proof.Proof.Launch

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The windows' blocks are the whole arrays -/

theorem xAt_eq (c : Dev nD) : xAt m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem rwAt_eq (c : Dev nD) : rwAt m c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
theorem riAt_eq (c : Dev nD) : riAt m c = m ((c : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _
theorem ewAt_eq (c : Dev nD) : ewAt m c = m ((c : Thread nD τ).loc main_arg3) :=
  Memref.read_access_unit_zero (Elt F) main_arg3 (off := fun a => (win0_3.index (0 : Fin 1)) a * main_arg3.ty.shape.size a)
    (funext fun a => by fin_cases a <;> decide) (fun a => by fin_cases a <;> decide) _

/-- The result array ends holding what the body left after its last hop. -/
theorem finalA_out (c : Dev nD) : finalA m ρ c (4 : Fin 5) = outAt m c 16 := by
  have hb : (win0_4.blk (0 : Fin 1)).view.read (Elt F) (finalA m ρ c (4 : Fin 5)) = outAt m c 16 := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hr := fun f => Memref.read_access_unit_zero (Elt F) main_v1 (off := fun a => (win0_4.index (0 : Fin 1)) a * main_v1.ty.shape.size a)
    (funext fun a => by fin_cases a <;> decide) (fun a => by fin_cases a <;> decide) f
  rw [hr] at hb
  exact hb

/-! ## The columns of ids -/

theorem idCol0_at (c : Dev nD) (t : Fin 256) : idCol0 m c (ix2 t 0) = riAt m c (ix2 t 0) := by
  show riAt m c _ = riAt m c _
  congr 1
  funext a
  refine Fin.ext ?_
  fin_cases a
  · show 0 + 1 * t.val = t.val; omega
  · rfl
theorem idCol1_at (c : Dev nD) (t : Fin 256) : idCol1 m c (ix2 t 0) = riAt m c (ix2 t 1) := by
  show riAt m c _ = riAt m c _
  congr 1
  funext a
  refine Fin.ext ?_
  fin_cases a
  · show 0 + 1 * t.val = t.val; omega
  · rfl

/-! ## The result -/

section
variable (m : (ℓ : Loc nD τ sig) → Buf (Elt Ideal) ℓ)

theorem outAt_at (c : Dev nD) (t r : Fin 256) (f : Dev nD → EReal)
    (hf : ∀ d, contrib (F := Ideal) (toks m c) (devWord d) (blk m d) (ix2 t r) = f d) : ∀ k : ℕ, outAt m c k (ix2 t r) = added f c k
  | 0 => hf c
  | k + 1 => by
    have step (d : Dev nD) (a : Vec Ideal S256x256 .f32) : addFrom m c d a (ix2 t r) = a (ix2 t r) + f d := by
      pointwise [addFrom]
      rw [hf]
    unfold outAt added
    split
    · rw [step, step, outAt_at c t r f hf k]
    · rw [step, outAt_at c t r f hf k]

/-- A token's row of the result, from its own device's blocks and from all the devices' experts. -/
theorem out_row (c : Dev nD) (t r : Fin 256) (a b : Fin 64) (W : Fin 64 → Fin 128 → EReal)
    (x : Fin 128 → EReal) (R : Fin 128 → Fin 64 → EReal)
    (hx : ∀ i, m ((c : Thread nD τ).loc main_arg0) (ix2 t i) = x i)
    (hR : ∀ i e, m ((c : Thread nD τ).loc main_arg1) (ix2 i e) = R i e)
    (ha : m ((c : Thread nD τ).loc main_arg2) (ix2 t 0) = expertWord a)
    (hb : m ((c : Thread nD τ).loc main_arg2) (ix2 t 1) = expertWord b)
    (hW : ∀ d j i, m (((d : Dev nD) : Thread nD τ).loc main_arg3) (ix3 j i r) = W (expert d j) i)
    (fx : ∀ i, IsReal (x i)) (fR : ∀ i e, IsReal (R i e)) :
    outAt m c 16 (ix2 t r) = weight x R a a b * ∑ i, x i * W a i + weight x R b a b * ∑ i, x i * W b i := by
  have h0 : idCol0 m c (ix2 t 0) = expertWord a := by rw [idCol0_at, riAt_eq]; exact ha
  have h1 : idCol1 m c (ix2 t 0) = expertWord b := by rw [idCol1_at, riAt_eq]; exact hb
  have ex : (fun i => xAt m c (ix2 t i)) = x := funext fun i => by rw [xAt_eq]; exact hx i
  have eR : (fun i e => rwAt m c (ix2 i e)) = R := funext fun i => funext fun e => by rw [rwAt_eq]; exact hR i e
  have hw0 := w0_at (xAt m c) (rwAt m c) (idCol0 m c) (idCol1 m c) t a b h0 h1
  have hw1 := w1_at (xAt m c) (rwAt m c) (idCol0 m c) (idCol1 m c) t a b h0 h1
  have he0 := e0_at (xAt m c) (rwAt m c) (idCol0 m c) (idCol1 m c) t a b h0 h1
  have he1 := e1_at (xAt m c) (rwAt m c) (idCol0 m c) (idCol1 m c) t a b h0 h1
  have hxb : (fun i => (toks m c).xb (ix2 t i)) = x := by
    rw [← ex]; exact funext fun i => xb_at (xAt m c) (rwAt m c) (idCol0 m c) (idCol1 m c) t i
  rw [ex, eR] at hw0 hw1
  rw [outAt_at m c t r (part (share (weight x R a a b) (weight x R b a b) a b) x W) (fun d => ?_) 16, added_all]
  · exact sum_parts (isPos_weight fx fR a a b) (isPos_weight fx fR b a b) a b x W
  · rw [contrib_at (toks m c) t a b he0 he1 d (blk m d) W r (fun j i => ?_)]
    · rw [hxb]
      unfold toks
      rw [hw0, hw1]
    · unfold blk
      rw [narrow_at, ewAt_eq]; exact hW d j i
end

end Cert.RingMoe

end
-- ==== Proof.RefValue.lean ====
/-
What the reference computes, one number at a time: each token's weighted sum of its two chosen experts. Its probabilities
are the softmax of its scores, its picked numbers and experts are read at the chosen ids.
-/
module

public import proofs.«01_k».proof.Proof.Rows
public import proofs.«01_k».proof.Proof.Gen.ReferenceIdeal
public import proofs.«01_k».proof.Proof.Gen.ReferenceIdeal.Run

@[expose] public section

noncomputable section

namespace Cert.RingMoe.Ref

open Cert.ReferenceIdeal Cert.ReferenceIdeal.Gen
open Idealize.ShloMosaic

/-! ## Words -/

theorem toInt_small (n : ℕ) (h : n < 2 ^ 31) : (BitVec.ofNat 32 n).toInt = n := by
  rw [BitVec.toInt_ofNat']; simp only [Int.bmod]; omega
theorem not_negative (n : ℕ) (h : n < 2 ^ 31) : IntOp.cmpi .slt (BitVec.ofNat 32 n) 0#32 = 0#1 := by
  have : (BitVec.ofNat 32 n).slt 0#32 = false := by
    rw [BitVec.slt, toInt_small n h]; simp
  simp [IntOp.cmpi, this]

/-! ## The operations that read at ids -/

/-- A number of the table read at a pair of ids in range. -/
theorem read_pair (x : FVec Ideal S8192x64 .f32) (idx : IVec S8192x2 32) (t : Fin 8192) (e : Fin 64)
    (h0 : idx (ix2 t 0) = BitVec.ofNat 32 t.val) (h1 : idx (ix2 t 1) = expertWord e) :
    Host.gather gather_S8192x64_S8192x2_S8192_n_01_n_n_01_1_11 x idx (ix1 t) = x (ix2 t e) := by
  have ht := t.isLt
  have he := e.isLt
  unfold Host.gather
  refine congrArg x (funext fun a => Fin.ext ?_)
  show GatherDims.start _ (ix1 t) idx a + GatherDims.batchCoord _ (ix1 t) a + GatherDims.offCoord _ (ix1 t) a = _
  have hc : a ∈ gather_S8192x64_S8192x2_S8192_n_01_n_n_01_1_11.collapsedSliceDims := by revert a; decide
  rw [GatherDims.batchCoord_eq_zero _ _ _ List.not_mem_nil, GatherDims.offCoord_eq_zero _ _ _ (fun h => ((GatherDims.mem_sKept _ _).1 h).1 hc)]
  simp only [Nat.add_zero]
  unfold GatherDims.start
  rw [dif_pos (show a ∈ gather_S8192x64_S8192x2_S8192_n_01_n_n_01_1_11.startIndexMap from hc)]
  have hsi (k : Fin 2) : gather_S8192x64_S8192x2_S8192_n_01_n_n_01_1_11.siIdx (ix1 t) k = ix2 t k := by
    funext b; refine Fin.ext ?_
    match b with
    | ⟨0, _⟩ => rfl
    | ⟨1, _⟩ => rfl
  match a with
  | ⟨0, _⟩ =>
    show min (idx (gather_S8192x64_S8192x2_S8192_n_01_n_n_01_1_11.siIdx (ix1 t) (0 : Fin 2))).toInt.toNat (8192 - 1) = t.val
    rw [hsi 0, h0, toInt_small _ (by omega), Int.toNat_natCast]; omega
  | ⟨1, _⟩ =>
    show min (idx (gather_S8192x64_S8192x2_S8192_n_01_n_n_01_1_11.siIdx (ix1 t) (1 : Fin 2))).toInt.toNat (64 - 1) = e.val
    rw [hsi 1, h1, expertWord, toInt_small _ (by omega), Int.toNat_natCast]; omega

/-- An expert's weights read at an id in range. -/
theorem read_expert (w : FVec Ideal S64x128x256 .f32) (idx : IVec S8192x1 32) (t : Fin 8192) (i : Fin 128) (r : Fin 256) (e : Fin 64)
    (h : idx (ix2 t 0) = expertWord e) :
    Host.gather gather_S64x128x256_S8192x1_S8192x128x256_12_0_n_n_0_1_1128256 w idx (ix3 t i r) = w (ix3 e i r) := by
  have he := e.isLt
  unfold Host.gather
  refine congrArg w (funext fun a => Fin.ext ?_)
  show GatherDims.start _ (ix3 t i r) idx a + GatherDims.batchCoord _ (ix3 t i r) a + GatherDims.offCoord _ (ix3 t i r) a = _
  rw [GatherDims.batchCoord_eq_zero _ _ _ List.not_mem_nil, Nat.add_zero]
  have hsi : gather_S64x128x256_S8192x1_S8192x128x256_12_0_n_n_0_1_1128256.siIdx (ix3 t i r) (0 : Fin 1) = ix2 t 0 := by
    funext b; refine Fin.ext ?_
    match b with
    | ⟨0, _⟩ => rfl
    | ⟨1, _⟩ => rfl
  match a with
  | ⟨0, h3⟩ =>
    rw [GatherDims.offCoord_eq_zero _ _ _ (fun h => ((GatherDims.mem_sKept _ _).1 h).1 (List.mem_singleton.2 rfl)), Nat.add_zero]
    unfold GatherDims.start
    rw [dif_pos (show (⟨0, h3⟩ : Fin S64x128x256.rank) ∈ gather_S64x128x256_S8192x1_S8192x128x256_12_0_n_n_0_1_1128256.startIndexMap from List.mem_singleton.2 rfl)]
    show min (idx (gather_S64x128x256_S8192x1_S8192x128x256_12_0_n_n_0_1_1128256.siIdx (ix3 t i r) (0 : Fin 1))).toInt.toNat (64 - 1) = e.val
    rw [hsi, h, expertWord, toInt_small _ (by omega), Int.toNat_natCast]; omega
  | ⟨1, _⟩ => exact Nat.zero_add _
  | ⟨2, _⟩ => exact Nat.zero_add _

/-! ## The reference by its parts -/

section
variable {F : FTy → Type} [FloatOps F]

def scores (x : FVec F S8192x128 .f32) (rw : FVec F S128x64 .f32) : FVec F S8192x64 .f32 :=
  Host.dotGeneral dot_S8192x128_S128x64_S8192x64_1_0_0_1_n_n none x rw
/-- A column of numbers, one for each token, along the rows. -/
def spread (v : FVec F S8192 .f32) : FVec F S8192x64 .f32 :=
  broadcastInDim S8192x64 ![0, 1] bcast_S8192x1_S8192x64_0_1 (broadcastInDim S8192x1 ![0] bcast_S8192_S8192x1_0 v)
def raisedAll (s : FVec F S8192x64 .f32) : FVec F S8192x64 .f32 :=
  Host.exp (subf s (spread (Host.reduce FloatOps.maximumf s (constant S_ .f32 0xFF800000#32) reducesTo_S8192x64_S8192_d1 h_S_)))
def probsAll (x : FVec F S8192x128 .f32) (rw : FVec F S128x64 .f32) : FVec F S8192x64 .f32 :=
  Host.divf (raisedAll (scores x rw)) (spread (Host.reduceAdd (raisedAll (scores x rw)) (constant S_ .f32 0x00000000#32) reducesTo_S8192x64_S8192_d1 h_S_))

/-- Ids with the negative ones counted from the end, `n` of them. -/
def wrap (n : BitVec 32) (v : IVec S8192 32) : IVec S8192 32 :=
  select (cmpi .slt v (broadcastInDim S8192 ![] bcast_S_S8192 (constantI S_ 32 0#32))) (addi v (broadcastInDim S8192 ![] bcast_S_S8192 (constantI S_ 32 n))) v
def column (v : IVec S8192 32) : IVec S8192x1 32 := broadcastInDim S8192x1 ![0] bcast_S8192_S8192x1_0 v
def first (ri : IVec S8192x2 32) : IVec S8192 32 := shapeCast _ (extractStridedSlice S8192x1 ![0, 0] ri slices_S8192x2_S8192x1_0_0) shapeCasts_S8192x1_S8192
def second (ri : IVec S8192x2 32) : IVec S8192 32 := shapeCast _ (extractStridedSlice S8192x1 ![0, 1] ri slices_S8192x2_S8192x1_0_1) shapeCasts_S8192x1_S8192

def pairs (v : IVec S8192 32) : IVec S8192x2 32 :=
  concatenate S8192x2 1 [⟨S8192x1, column (wrap 8192#32 (iotaInDim S8192 32 0))⟩, ⟨S8192x1, column (wrap 64#32 v)⟩] concatenates_S8192x1_S8192x1_S8192x2_d1
def pickAll (p : FVec F S8192x64 .f32) (v : IVec S8192 32) : FVec F S8192 .f32 :=
  Host.gather gather_S8192x64_S8192x2_S8192_n_01_n_n_01_1_11 p (pairs v)
def chosen (x : FVec F S8192x128 .f32) (w : FVec F S64x128x256 .f32) (v : IVec S8192 32) : FVec F S8192x256 .f32 :=
  Host.dotGeneral dot_S8192x128_S8192x128x256_S8192x256_1_1_n_2_0_0 none x
    (Host.gather gather_S64x128x256_S8192x1_S8192x128x256_12_0_n_n_0_1_1128256 w (column (wrap 64#32 v)))
/-- One choice `v` of two, `u` and `u'`, under its weight. -/
def weighted (x : FVec F S8192x128 .f32) (rw : FVec F S128x64 .f32) (w : FVec F S64x128x256 .f32) (u u' v : IVec S8192 32) : FVec F S8192x256 .f32 :=
  mulf (broadcastInDim S8192x256 ![0, 1] bcast_S8192x1_S8192x256_0_1 (broadcastInDim S8192x1 ![0] bcast_S8192_S8192x1_0
    (Host.divf (pickAll (probsAll x rw) v) (addf (pickAll (probsAll x rw) u) (pickAll (probsAll x rw) u'))))) (chosen x w v)
def out (x : FVec F S8192x128 .f32) (rw : FVec F S128x64 .f32) (ri : IVec S8192x2 32) (w : FVec F S64x128x256 .f32) : FVec F S8192x256 .f32 :=
  addf (weighted x rw w (first ri) (second ri) (first ri)) (weighted x rw w (first ri) (second ri) (second ri))

theorem res_eq (m : (ℓ : Loc nD τ sig) → Buf (Elt F) ℓ) (c : Dev nD) : Value.res_out0 m c
    = out (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v68
  rfl
end

/-! ## The parts at a token -/

section
variable (x : FVec Ideal S8192x128 .f32) (rw : FVec Ideal S128x64 .f32) (w : FVec Ideal S64x128x256 .f32) (t : Fin 8192)

theorem probsAll_at (e : Fin 64) : probsAll x rw (ix2 t e) = soft (fun i => x (ix2 t i)) (fun i e => rw (ix2 i e)) e := by
  pointwise [probsAll, raisedAll, spread, scores]
  rfl

theorem wrap_at (n k : ℕ) (v : IVec S8192 32) (h : v (ix1 t) = BitVec.ofNat 32 k) (hk : k < 2 ^ 31) :
    wrap (BitVec.ofNat 32 n) v (ix1 t) = BitVec.ofNat 32 k := by
  pointwise [wrap]
  rw [h, not_negative k hk]
  rfl

theorem first_at (ri : IVec S8192x2 32) : first ri (ix1 t) = ri (ix2 t 0) := by
  pointwise [first]
theorem second_at (ri : IVec S8192x2 32) : second ri (ix1 t) = ri (ix2 t 1) := by
  pointwise [second]

variable (v : IVec S8192 32) (a : Fin 64) (h : v (ix1 t) = expertWord a)
include h

theorem column_at : column (wrap 64#32 v) (ix2 t 0) = expertWord a := by
  pointwise [column]
  exact wrap_at t 64 a.val v h (by omega)
theorem pairs_at : pairs v (ix2 t 0) = BitVec.ofNat 32 t.val ∧ pairs v (ix2 t 1) = expertWord a := by
  constructor
  · have := wrap_at t 8192 t.val (iotaInDim S8192 32 0) rfl (by omega)
    pointwise [pairs, column]
    exact this
  · have := wrap_at t 64 a.val v h (by omega)
    pointwise [pairs, column]
    exact this

theorem pickAll_at (p : FVec Ideal S8192x64 .f32) : pickAll p v (ix1 t) = p (ix2 t a) :=
  read_pair p (pairs v) t a (pairs_at t v a h).1 (pairs_at t v a h).2

theorem chosen_at (r : Fin 256) : chosen x w v (ix2 t r) = ∑ i, x (ix2 t i) * w (ix3 a i r) := by
  pointwise [chosen]
  exact Finset.sum_congr rfl fun i _ => by rw [read_expert w _ t i r a (column_at t v a h)]

theorem weighted_at (u u' : IVec S8192 32) (b b' : Fin 64) (hu : u (ix1 t) = expertWord b) (hu' : u' (ix1 t) = expertWord b') (r : Fin 256) :
    weighted x rw w u u' v (ix2 t r)
      = weight (fun i => x (ix2 t i)) (fun i e => rw (ix2 i e)) a b b' * ∑ i, x (ix2 t i) * w (ix3 a i r) := by
  pointwise [weighted]
  rw [chosen_at x w t v a h r, pickAll_at t v a h, pickAll_at t u b hu, pickAll_at t u' b' hu', probsAll_at, probsAll_at, probsAll_at]
  rfl
end

/-- A token's row of the reference's result. -/
theorem out_at (x : FVec Ideal S8192x128 .f32) (rw : FVec Ideal S128x64 .f32) (ri : IVec S8192x2 32) (w : FVec Ideal S64x128x256 .f32)
    (t : Fin 8192) (r : Fin 256) (a b : Fin 64) (ha : ri (ix2 t 0) = expertWord a) (hb : ri (ix2 t 1) = expertWord b) :
    out x rw ri w (ix2 t r)
      = weight (fun i => x (ix2 t i)) (fun i e => rw (ix2 i e)) a a b * ∑ i, x (ix2 t i) * w (ix3 a i r)
        + weight (fun i => x (ix2 t i)) (fun i e => rw (ix2 i e)) b a b * ∑ i, x (ix2 t i) * w (ix3 b i r) := by
  have h0 : first ri (ix1 t) = expertWord a := (first_at t ri).trans ha
  have h1 : second ri (ix1 t) = expertWord b := (second_at t ri).trans hb
  rw [← weighted_at x rw w t (first ri) a h0 (first ri) (second ri) a b h0 h1, ← weighted_at x rw w t (second ri) b h1 (first ri) (second ri) a b h0 h1]
  rfl

end Cert.RingMoe.Ref

end
-- ==== Proof.Value.lean ====
/-
The kernel's result is the reference's: where every routed expert is one of the sixty-four and the scores are of finite
numbers, device `c` ends holding rows `256 c` to `256 c + 255` of what the reference computes.
-/
module

public import proofs.«01_k».proof.Defs
public import proofs.«01_k».proof.Proof.Result
public import proofs.«01_k».proof.Proof.RefValue
public import proofs.«01_k».proof.Proof.Frames
public import Idealize.ShloMosaic.Lib.Layout
public import Idealize.ShloMosaic.Lib.ReduceAll

@[expose] public section

noncomputable section

namespace Cert.RingMoe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The precondition -/

instance preKernelFacts : Cert.Pre_routed_KernelIdeal.Facts where
  bcast_S_S256x2 := by decide
  reducesTo_S256x2_S_d0_1 := by decide
  h_S_ := by decide
  bcast_S_S256x128 := by decide
  reducesTo_S256x128_S_d0_1 := by decide
  bcast_S_S128x64 := by decide
  reducesTo_S128x64_S_d0_1 := by decide
instance preReferenceFacts : Cert.Pre_routed_ReferenceIdeal.Facts where
  bcast_S_S8192x2 := by decide
  reducesTo_S8192x2_S_d0_1 := by decide
  h_S_ := by decide
  bcast_S_S8192x128 := by decide
  reducesTo_S8192x128_S_d0_1 := by decide
  bcast_S_S128x64 := by decide
  reducesTo_S128x64_S_d0_1 := by decide

theorem ofBool_one : ∀ b : Bool, BitVec.ofBool b = 1#1 → b = true := by decide

/-- A word from 0 to 63 is an expert's. -/
theorem word_expert (v : BitVec 32) (h0 : IntOp.cmpi .sge v 0#32 = 1#1) (h1 : IntOp.cmpi .slt v 64#32 = 1#1) : ∃ a : Fin 64, v = expertWord a := by
  have b0 : (0#32).sle v = true := ofBool_one _ h0
  have b1 : v.slt 64#32 = true := ofBool_one _ h1
  rw [BitVec.sle_iff_toInt_le] at b0
  rw [BitVec.slt_iff_toInt_lt] at b1
  have z : (0#32).toInt = 0 := by decide
  have s : (64#32).toInt = 64 := by decide
  rw [z] at b0
  rw [s] at b1
  have hv := v.isLt
  have hn : v.toNat < 64 := by rw [BitVec.toInt_eq_toNat_cond] at b0 b1; split at b0 <;> omega
  exact ⟨⟨v.toNat, hn⟩, BitVec.eq_of_toNat_eq (by simp [expertWord])⟩

/-- A number whose size is less than infinity is a real. -/
theorem isReal_of_below (a : Ideal .f32) (h : (FloatOps.cmpf .olt (FloatOps.absf a) (FloatOps.ofBits .f32 0x7F800000#32 : Ideal .f32) : BitVec 1) = 1#1) : IsReal a := by
  change EReal at a
  induction a using EReal.rec with
  | bot => exfalso; revert h; simp [FloatOps.cmpf, FloatOps.absf, FloatOps.ofBits, Ideal.ofBits, Ideal.ieee, Ideal.cmp]
  | coe r => exact ⟨r, rfl⟩
  | top => exfalso; revert h; simp [FloatOps.cmpf, FloatOps.absf, FloatOps.ofBits, Ideal.ofBits, Ideal.ieee, Ideal.cmp]

instance one_index : Subsingleton Cert.Pre_routed_KernelIdeal.S_.Idx := ⟨fun a b => funext fun i => i.elim0⟩

/-- What the precondition says of a device's blocks. -/
theorem pre_read (x : FVec Ideal S256x128 .f32) (rw : FVec Ideal S128x64 .f32) (ri : IVec S256x2 32) (w : FVec Ideal S2x128x256 .f32)
    (h : Cert.Pre_routed_KernelIdeal.fn (F := Ideal) x rw ri w = fun _ => 1#1) :
    (∀ i, ∃ a : Fin 64, ri i = expertWord a) ∧ (∀ i, IsReal (x i)) ∧ ∀ i, IsReal (rw i) := by
  have h' := congrFun h (fun i => i.elim0)
  unfold Cert.Pre_routed_KernelIdeal.fn at h'
  obtain ⟨h12, h3⟩ := IntOp.andi_eq_one.1 h'
  obtain ⟨h1, h2⟩ := IntOp.andi_eq_one.1 h12
  refine ⟨fun i => ?_, fun i => ?_, fun i => ?_⟩
  · obtain ⟨a, b⟩ := IntOp.andi_eq_one.1 (Host.reduce_andi_all _ _ _ _ _ h1 i)
    exact word_expert _ a b
  · exact isReal_of_below _ (Host.reduce_andi_all _ _ _ _ _ h2 i)
  · exact isReal_of_below _ (Host.reduce_andi_all _ _ _ _ _ h3 i)

/-! ## Blocks of the whole arrays -/

/-- Row `t` of device `c`'s block among all the rows. -/
def row (c : Fin 32) (t : Fin 256) : Fin 8192 := ⟨c.val * 256 + t.val, by omega⟩

theorem block_rows {α : Type} {n : ℕ} (h : Layout.Tiles ⟨2, ![256, n]⟩ ⟨2, ![8192, n]⟩ 0 32) (c : Fin 32) (v : (⟨2, ![8192, n]⟩ : Shape).Idx → α)
    (t : Fin 256) (i : Fin n) : Layout.block ⟨2, ![256, n]⟩ ⟨2, ![8192, n]⟩ 0 32 c v h (ix2 t i) = v (ix2 (row c t) i) :=
  congrArg v (funext fun a => Fin.ext (by
    match a with
    | ⟨0, _⟩ => rfl
    | ⟨1, _⟩ => rfl))
theorem block_experts {α : Type} (h : Layout.Tiles ⟨3, ![2, 128, 256]⟩ ⟨3, ![64, 128, 256]⟩ 0 32) (c : Fin 32) (v : (⟨3, ![64, 128, 256]⟩ : Shape).Idx → α)
    (j : Fin 2) (i : Fin 128) (r : Fin 256) : Layout.block ⟨3, ![2, 128, 256]⟩ ⟨3, ![64, 128, 256]⟩ 0 32 c v h (ix3 j i r) = v (ix3 (expert c j) i r) :=
  congrArg v (funext fun a => Fin.ext (by
    match a with
    | ⟨0, _⟩ => show c.val * 2 + j.val = (expert c j).val; rw [expert_val]; omega
    | ⟨1, _⟩ => rfl
    | ⟨2, _⟩ => rfl))

/-! ## The values agree -/

section
variable (m : (ℓ : Loc nD τ sig) → Buf (Elt Ideal) ℓ)
  (X : FVec Ideal Cert.ReferenceIdeal.S8192x128 .f32) (R : FVec Ideal Cert.ReferenceIdeal.S128x64 .f32)
  (I : IVec Cert.ReferenceIdeal.S8192x2 32) (W : FVec Ideal Cert.ReferenceIdeal.S64x128x256 .f32)
  (hpre : Cert.Pre_KernelIdeal_routed_KernelIdeal m)
  (hX : ∀ c : Dev nD, m ((c : Thread nD τ).loc main_arg0) = Layout.block ⟨2, ![256, 128]⟩ ⟨2, ![8192, 128]⟩ 0 32 c X)
  (hR : ∀ c : Dev nD, m ((c : Thread nD τ).loc main_arg1) = R)
  (hI : ∀ c : Dev nD, m ((c : Thread nD τ).loc main_arg2) = Layout.block ⟨2, ![256, 2]⟩ ⟨2, ![8192, 2]⟩ 0 32 c I)
  (hW : ∀ c : Dev nD, m ((c : Thread nD τ).loc main_arg3) = Layout.block ⟨3, ![2, 128, 256]⟩ ⟨3, ![64, 128, 256]⟩ 0 32 c W)
include hpre hX hR hI hW

/-- Device `c` ends with its rows of the reference's result. -/
theorem out_block (c : Dev nD) : outAt m c 16 = Layout.block ⟨2, ![256, 256]⟩ ⟨2, ![8192, 256]⟩ 0 32 c (Ref.out X R I W) := by
  obtain ⟨pI, pX, pR⟩ := pre_read _ _ _ _ (hpre c)
  funext y
  obtain ⟨t, r, rfl⟩ : ∃ (t r : Fin 256), y = ix2 t r := ⟨y 0, y 1, funext fun a => by fin_cases a <;> rfl⟩
  obtain ⟨a, ha⟩ := pI (ix2 t 0)
  obtain ⟨b, hb⟩ := pI (ix2 t 1)
  have ga : I (ix2 (row c t) 0) = expertWord a := by rw [← ha, hI c]; exact (block_rows _ c I t 0).symm
  have gb : I (ix2 (row c t) 1) = expertWord b := by rw [← hb, hI c]; exact (block_rows _ c I t 1).symm
  have ex (i : Fin 128) : m ((c : Thread nD τ).loc main_arg0) (ix2 t i) = X (ix2 (row c t) i) := by rw [hX c]; exact block_rows _ c X t i
  have eR (i : Fin 128) (e : Fin 64) : m ((c : Thread nD τ).loc main_arg1) (ix2 i e) = R (ix2 i e) := by rw [hR c]
  rw [block_rows, Ref.out_at X R I W (row c t) r a b ga gb]
  refine out_row m c t r a b (fun e i => W (ix3 e i r)) (fun i => X (ix2 (row c t) i)) (fun i e => R (ix2 i e)) ex eR ha hb
    (fun d j i => ?_) (fun i => ?_) (fun i e => ?_)
  · rw [hW d]; exact block_experts _ d W j i r
  · have := pX (ix2 t i); rw [ex i] at this; exact this
  · have := pR (ix2 i e); rw [eR i e] at this; exact this
end

/-- The kernel computes what the reference does. -/
theorem algebraic : Cert.algebraic_KernelIdeal_ReferenceIdeal_pre_routed_KernelIdeal := by
  intro m ρ m' ρ' hpre hagree
  refine ⟨Cert.ReferenceIdeal.Value.res_out0 m' 0, ?_, (θ_run Cert.ReferenceIdeal.defs _ _).mono (fun r h => ⟨(h 0).1, (h 0).2⟩)
    (Cert.ReferenceIdeal.Value.run (F := Ideal) m' ρ')⟩
  refine (θ_run Cert.KernelIdeal.defs _ _).mono (fun r h c => ⟨?_, args_kept m ρ h.1 c⟩) (run_main (F := Ideal) m ρ)
  refine (h.1 c 4).trans ((finalA_out m ρ c).trans ?_)
  rw [Ref.res_eq]
  exact out_block m _ _ _ _ hpre (fun c => (hagree c).1) (fun c => (hagree c).2.1) (fun c => (hagree c).2.2.1) (fun c => (hagree c).2.2.2) c

end Cert.RingMoe

end
-- ==== Proof.lean ====
/-
The claims, put together from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Cert.RingMoe

/-- Everything that the certificate claims. -/
theorem claim : Cert.Claim :=
  ⟨Cert.Kernel.Gen.facts, Cert.KernelIdeal.Gen.facts, Cert.ReferenceIdeal.Gen.facts, preKernelFacts, preReferenceFacts,
    frame_kernel, frame_kernelIdeal, fun m ρ _ => frame_kernelIdeal m ρ trivial,
    frame_reference, fun m ρ _ => frame_reference m ρ trivial, trivial, algebraic⟩

end Cert.Proof

end
